-- ==== Defs.lean ====
def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetRefIdeal (m : (ℓ : Loc Cert.RetRefIdeal.nD Cert.RetRefIdeal.τ Cert.RetRefIdeal.sig) → Buf (Elt Ideal) ℓ) : Prop :=
  True

def Pre_Main (m : (ℓ : Loc Cert.Main.nD Cert.Main.τ Cert.Main.sig) → Buf (Elt Bits) ℓ) : Prop :=
  True

def Pre_MainIdeal (m : (ℓ : Loc Cert.MainIdeal.nD Cert.MainIdeal.τ Cert.MainIdeal.sig) → Buf (Elt Ideal) ℓ) : Prop :=
  True

def Pre_MainRefIdeal (m : (ℓ : Loc Cert.MainRefIdeal.nD Cert.MainRefIdeal.τ Cert.MainRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0)
      ∧ r.2.mem ((c.tc : Thread Cert.Ret.nD Cert.Ret.τ).loc Cert.Ret.main_arg1) = m ((c.tc : Thread Cert.Ret.nD Cert.Ret.τ).loc Cert.Ret.main_arg1))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1))
      ∧ r.2.sem = fun _ => 0)

def quiescent_RetRefIdeal [hRetRefIdeal : Cert.RetRefIdeal.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1))
      ∧ r.2.sem = fun _ => 0)

def quiescent_Main [hMain : Cert.Main.Facts] : Prop :=
  ∀ (m : (ℓ : Loc Cert.Main.nD Cert.Main.τ Cert.Main.sig) → Buf (Elt Bits) ℓ) (g : Dev Cert.Main.nD → PrngReg), Pre_Main m →
    θ_run (Cert.Main.defs (F := Bits)) (onTc (τ := Cert.Main.τ) (Cert.Main.main (F := Bits))) ⟨m, fun _ => 0, g⟩ (fun r => (∀ c : Dev Cert.Main.nD,
      r.2.mem ((c.tc : Thread Cert.Main.nD Cert.Main.τ).loc Cert.Main.main_arg0) = m ((c.tc : Thread Cert.Main.nD Cert.Main.τ).loc Cert.Main.main_arg0)
      ∧ r.2.mem ((c.tc : Thread Cert.Main.nD Cert.Main.τ).loc Cert.Main.main_arg1) = m ((c.tc : Thread Cert.Main.nD Cert.Main.τ).loc Cert.Main.main_arg1))
      ∧ r.2.sem = fun _ => 0)

def quiescent_MainIdeal [hMainIdeal : Cert.MainIdeal.Facts] : Prop :=
  ∀ (m : (ℓ : Loc Cert.MainIdeal.nD Cert.MainIdeal.τ Cert.MainIdeal.sig) → Buf (Elt Ideal) ℓ) (g : Dev Cert.MainIdeal.nD → PrngReg), Pre_MainIdeal m →
    θ_run (Cert.MainIdeal.defs (F := Ideal)) (onTc (τ := Cert.MainIdeal.τ) (Cert.MainIdeal.main (F := Ideal))) ⟨m, fun _ => 0, g⟩ (fun r => (∀ c : Dev Cert.MainIdeal.nD,
      r.2.mem ((c.tc : Thread Cert.MainIdeal.nD Cert.MainIdeal.τ).loc Cert.MainIdeal.main_arg0) = m ((c.tc : Thread Cert.MainIdeal.nD Cert.MainIdeal.τ).loc Cert.MainIdeal.main_arg0)
      ∧ r.2.mem ((c.tc : Thread Cert.MainIdeal.nD Cert.MainIdeal.τ).loc Cert.MainIdeal.main_arg1) = m ((c.tc : Thread Cert.MainIdeal.nD Cert.MainIdeal.τ).loc Cert.MainIdeal.main_arg1))
      ∧ r.2.sem = fun _ => 0)

def quiescent_MainRefIdeal [hMainRefIdeal : Cert.MainRefIdeal.Facts] : Prop :=
  ∀ (m : (ℓ : Loc Cert.MainRefIdeal.nD Cert.MainRefIdeal.τ Cert.MainRefIdeal.sig) → Buf (Elt Ideal) ℓ) (g : Dev Cert.MainRefIdeal.nD → PrngReg), Pre_MainRefIdeal m →
    θ_run (Cert.MainRefIdeal.defs (F := Ideal)) (onTc (τ := Cert.MainRefIdeal.τ) (Cert.MainRefIdeal.main (F := Ideal))) ⟨m, fun _ => 0, g⟩ (fun r => (∀ c : Dev Cert.MainRefIdeal.nD,
      r.2.mem ((c.tc : Thread Cert.MainRefIdeal.nD Cert.MainRefIdeal.τ).loc Cert.MainRefIdeal.main_arg0) = m ((c.tc : Thread Cert.MainRefIdeal.nD Cert.MainRefIdeal.τ).loc Cert.MainRefIdeal.main_arg0)
      ∧ r.2.mem ((c.tc : Thread Cert.MainRefIdeal.nD Cert.MainRefIdeal.τ).loc Cert.MainRefIdeal.main_arg1) = m ((c.tc : Thread Cert.MainRefIdeal.nD Cert.MainRefIdeal.τ).loc Cert.MainRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def preserves_Ret_RetIdeal : Prop :=
  True

def algebraic_RetIdeal_RetRefIdeal [hRetIdeal : Cert.RetIdeal.Facts] [hRetRefIdeal : Cert.RetRefIdeal.Facts] : Prop :=
  ∀ (m : (ℓ : Loc Cert.RetIdeal.nD Cert.RetIdeal.τ Cert.RetIdeal.sig) → Buf (Elt Ideal) ℓ) (g : Dev Cert.RetIdeal.nD → PrngReg)
    (m' : (ℓ : Loc Cert.RetRefIdeal.nD Cert.RetRefIdeal.τ Cert.RetRefIdeal.sig) → Buf (Elt Ideal) ℓ) (g' : Dev Cert.RetRefIdeal.nD → PrngReg), Pre_RetIdeal m →
    (∀ c : Dev Cert.RetIdeal.nD,
      m' ((c.tc : Thread Cert.RetRefIdeal.nD Cert.RetRefIdeal.τ).loc Cert.RetRefIdeal.main_arg0) = m ((c.tc : Thread Cert.RetIdeal.nD Cert.RetIdeal.τ).loc Cert.RetIdeal.main_arg0)
      ∧ m' ((c.tc : Thread Cert.RetRefIdeal.nD Cert.RetRefIdeal.τ).loc Cert.RetRefIdeal.main_arg1) = m ((c.tc : Thread Cert.RetIdeal.nD Cert.RetIdeal.τ).loc Cert.RetIdeal.main_arg1)) →
    ∃ (v0 : (c : Dev Cert.RetIdeal.nD) → Buf (Elt Ideal) ((c.tc : Thread Cert.RetIdeal.nD Cert.RetIdeal.τ).loc Cert.RetIdeal.main_v73)),
      θ_run (Cert.RetIdeal.defs (F := Ideal)) (onTc (τ := Cert.RetIdeal.τ) (Cert.RetIdeal.main (F := Ideal))) ⟨m, fun _ => 0, g⟩ (fun r => ∀ c : Dev Cert.RetIdeal.nD,
          r.2.mem ((c.tc : Thread Cert.RetIdeal.nD Cert.RetIdeal.τ).loc Cert.RetIdeal.main_v73) = v0 c
          ∧ r.2.mem ((c.tc : Thread Cert.RetIdeal.nD Cert.RetIdeal.τ).loc Cert.RetIdeal.main_arg0) = m ((c.tc : Thread Cert.RetIdeal.nD Cert.RetIdeal.τ).loc Cert.RetIdeal.main_arg0)
          ∧ r.2.mem ((c.tc : Thread Cert.RetIdeal.nD Cert.RetIdeal.τ).loc Cert.RetIdeal.main_arg1) = m ((c.tc : Thread Cert.RetIdeal.nD Cert.RetIdeal.τ).loc Cert.RetIdeal.main_arg1))
      ∧ θ_run (Cert.RetRefIdeal.defs (F := Ideal)) (onTc (τ := Cert.RetRefIdeal.τ) (Cert.RetRefIdeal.main (F := Ideal))) ⟨m', fun _ => 0, g'⟩ (fun r => ∀ c : Dev Cert.RetRefIdeal.nD,
          r.2.mem ((c.tc : Thread Cert.RetRefIdeal.nD Cert.RetRefIdeal.τ).loc Cert.RetRefIdeal.main_v338) = v0 c
          ∧ r.2.mem ((c.tc : Thread Cert.RetRefIdeal.nD Cert.RetRefIdeal.τ).loc Cert.RetRefIdeal.main_arg0) = m' ((c.tc : Thread Cert.RetRefIdeal.nD Cert.RetRefIdeal.τ).loc Cert.RetRefIdeal.main_arg0)
          ∧ r.2.mem ((c.tc : Thread Cert.RetRefIdeal.nD Cert.RetRefIdeal.τ).loc Cert.RetRefIdeal.main_arg1) = m' ((c.tc : Thread Cert.RetRefIdeal.nD Cert.RetRefIdeal.τ).loc Cert.RetRefIdeal.main_arg1))

def preserves_Main_MainIdeal : Prop :=
  True

def algebraic_MainIdeal_MainRefIdeal [hMainIdeal : Cert.MainIdeal.Facts] [hMainRefIdeal : Cert.MainRefIdeal.Facts] : Prop :=
  ∀ (m : (ℓ : Loc Cert.MainIdeal.nD Cert.MainIdeal.τ Cert.MainIdeal.sig) → Buf (Elt Ideal) ℓ) (g : Dev Cert.MainIdeal.nD → PrngReg)
    (m' : (ℓ : Loc Cert.MainRefIdeal.nD Cert.MainRefIdeal.τ Cert.MainRefIdeal.sig) → Buf (Elt Ideal) ℓ) (g' : Dev Cert.MainRefIdeal.nD → PrngReg), Pre_MainIdeal m →
    (∀ c : Dev Cert.MainIdeal.nD,
      m' ((c.tc : Thread Cert.MainRefIdeal.nD Cert.MainRefIdeal.τ).loc Cert.MainRefIdeal.main_arg0) = m ((c.tc : Thread Cert.MainIdeal.nD Cert.MainIdeal.τ).loc Cert.MainIdeal.main_arg0)
      ∧ m' ((c.tc : Thread Cert.MainRefIdeal.nD Cert.MainRefIdeal.τ).loc Cert.MainRefIdeal.main_arg1) = m ((c.tc : Thread Cert.MainIdeal.nD Cert.MainIdeal.τ).loc Cert.MainIdeal.main_arg1)) →
    ∃ (v0 : (c : Dev Cert.MainIdeal.nD) → Buf (Elt Ideal) ((c.tc : Thread Cert.MainIdeal.nD Cert.MainIdeal.τ).loc Cert.MainIdeal.main_v0)),
      θ_run (Cert.MainIdeal.defs (F := Ideal)) (onTc (τ := Cert.MainIdeal.τ) (Cert.MainIdeal.main (F := Ideal))) ⟨m, fun _ => 0, g⟩ (fun r => ∀ c : Dev Cert.MainIdeal.nD,
          r.2.mem ((c.tc : Thread Cert.MainIdeal.nD Cert.MainIdeal.τ).loc Cert.MainIdeal.main_v0) = v0 c
          ∧ r.2.mem ((c.tc : Thread Cert.MainIdeal.nD Cert.MainIdeal.τ).loc Cert.MainIdeal.main_arg0) = m ((c.tc : Thread Cert.MainIdeal.nD Cert.MainIdeal.τ).loc Cert.MainIdeal.main_arg0)
          ∧ r.2.mem ((c.tc : Thread Cert.MainIdeal.nD Cert.MainIdeal.τ).loc Cert.MainIdeal.main_arg1) = m ((c.tc : Thread Cert.MainIdeal.nD Cert.MainIdeal.τ).loc Cert.MainIdeal.main_arg1))
      ∧ θ_run (Cert.MainRefIdeal.defs (F := Ideal)) (onTc (τ := Cert.MainRefIdeal.τ) (Cert.MainRefIdeal.main (F := Ideal))) ⟨m', fun _ => 0, g'⟩ (fun r => ∀ c : Dev Cert.MainRefIdeal.nD,
          r.2.mem ((c.tc : Thread Cert.MainRefIdeal.nD Cert.MainRefIdeal.τ).loc Cert.MainRefIdeal.main_v4) = v0 c
          ∧ r.2.mem ((c.tc : Thread Cert.MainRefIdeal.nD Cert.MainRefIdeal.τ).loc Cert.MainRefIdeal.main_arg0) = m' ((c.tc : Thread Cert.MainRefIdeal.nD Cert.MainRefIdeal.τ).loc Cert.MainRefIdeal.main_arg0)
          ∧ r.2.mem ((c.tc : Thread Cert.MainRefIdeal.nD Cert.MainRefIdeal.τ).loc Cert.MainRefIdeal.main_arg1) = m' ((c.tc : Thread Cert.MainRefIdeal.nD Cert.MainRefIdeal.τ).loc Cert.MainRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v23) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v1) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v19) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def Claim : Prop :=
  ∃ (hRet : Cert.Ret.Facts) (hRetIdeal : Cert.RetIdeal.Facts) (hRetRefIdeal : Cert.RetRefIdeal.Facts) (hMain : Cert.Main.Facts) (hMainIdeal : Cert.MainIdeal.Facts) (hMainRefIdeal : Cert.MainRefIdeal.Facts) (hMerge : Cert.Merge.Facts) (hMergeIdeal : Cert.MergeIdeal.Facts) (hMergeRefIdeal : Cert.MergeRefIdeal.Facts) (hOut : Cert.Out.Facts) (hOutIdeal : Cert.OutIdeal.Facts) (hOutRefIdeal : Cert.OutRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts),
    quiescent_Ret (hRet := hRet)
    ∧ quiescent_RetIdeal (hRetIdeal := hRetIdeal)
    ∧ quiescent_RetRefIdeal (hRetRefIdeal := hRetRefIdeal)
    ∧ quiescent_Main (hMain := hMain)
    ∧ quiescent_MainIdeal (hMainIdeal := hMainIdeal)
    ∧ quiescent_MainRefIdeal (hMainRefIdeal := hMainRefIdeal)
    ∧ quiescent_Merge (hMerge := hMerge)
    ∧ quiescent_MergeIdeal (hMergeIdeal := hMergeIdeal)
    ∧ quiescent_MergeRefIdeal (hMergeRefIdeal := hMergeRefIdeal)
    ∧ quiescent_Out (hOut := hOut)
    ∧ quiescent_OutIdeal (hOutIdeal := hOutIdeal)
    ∧ quiescent_OutRefIdeal (hOutRefIdeal := hOutRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ preserves_Ret_RetIdeal
    ∧ algebraic_RetIdeal_RetRefIdeal (hRetIdeal := hRetIdeal) (hRetRefIdeal := hRetRefIdeal)
    ∧ preserves_Main_MainIdeal
    ∧ algebraic_MainIdeal_MainRefIdeal (hMainIdeal := hMainIdeal) (hMainRefIdeal := hMainRefIdeal)
    ∧ preserves_Merge_MergeIdeal
    ∧ algebraic_MergeIdeal_MergeRefIdeal (hMergeIdeal := hMergeIdeal) (hMergeRefIdeal := hMergeRefIdeal)
    ∧ preserves_Out_OutIdeal
    ∧ algebraic_OutIdeal_OutRefIdeal (hOutIdeal := hOutIdeal) (hOutRefIdeal := hOutRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
-- ==== Ret.lean ====
abbrev S16384x7680 : Shape := ⟨2, ![16384, 7680]⟩
abbrev S640 : Shape := ⟨1, ![640]⟩
abbrev S_ : Shape := ⟨0, ![]⟩
abbrev S63 : Shape := ⟨1, ![63]⟩
abbrev S1 : Shape := ⟨1, ![1]⟩
abbrev S64 : Shape := ⟨1, ![64]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S128 : Shape := ⟨1, ![128]⟩
abbrev S4096x0 : Shape := ⟨2, ![4096, 0]⟩
abbrev S1x128 : Shape := ⟨2, ![1, 128]⟩
abbrev S5 : Shape := ⟨1, ![5]⟩
abbrev S5x1 : Shape := ⟨2, ![5, 1]⟩
abbrev S128x128 : Shape := ⟨2, ![128, 128]⟩
abbrev S128x1 : Shape := ⟨2, ![128, 1]⟩
abbrev S5x1x1 : Shape := ⟨3, ![5, 1, 1]⟩
abbrev S1x128x128 : Shape := ⟨3, ![1, 128, 128]⟩
abbrev S5x128x128 : Shape := ⟨3, ![5, 128, 128]⟩
abbrev S5x128 : Shape := ⟨2, ![5, 128]⟩
abbrev S5x8x128 : Shape := ⟨3, ![5, 8, 128]⟩
abbrev S5x128x1 : Shape := ⟨3, ![5, 128, 1]⟩
abbrev S5x1x128 : Shape := ⟨3, ![5, 1, 128]⟩
abbrev S16384x640 : Shape := ⟨2, ![16384, 640]⟩
abbrev S512x640 : Shape := ⟨2, ![512, 640]⟩
abbrev S512x128 : Shape := ⟨2, ![512, 128]⟩
abbrev S1x1x128 : Shape := ⟨3, ![1, 1, 128]⟩

abbrev nBuf : Space → Nat
  | .hbm => 125
  | .vmem => 20
  | .smem => 0
  | _ => 0

abbrev bufTy : (tb : Table) → Fin (tcTables nBuf tb) → BufTy
  | .hbm, ⟨0, _⟩ => ⟨S16384x7680, .f32⟩
  | .hbm, ⟨1, _⟩ => ⟨S640, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S63, .f32⟩
  | .hbm, ⟨10, _⟩ => ⟨S_, .f32⟩
  | .hbm, ⟨11, _⟩ => ⟨S63, .f32⟩
  | .hbm, ⟨12, _⟩ => ⟨S63, .f32⟩
  | .hbm, ⟨13, _⟩ => ⟨S1, .f32⟩
  | .hbm, ⟨14, _⟩ => ⟨S_, .f32⟩
  | .hbm, ⟨15, _⟩ => ⟨S63, .f32⟩
  | .hbm, ⟨16, _⟩ => ⟨S63, .f32⟩
  | .hbm, ⟨17, _⟩ => ⟨S63, .f32⟩
  | .hbm, ⟨18, _⟩ => ⟨S63, .f32⟩
  | .hbm, ⟨19, _⟩ => ⟨S1, .f32⟩
  | .hbm, ⟨20, _⟩ => ⟨S63, .f32⟩
  | .hbm, ⟨21, _⟩ => ⟨S63, .f32⟩
  | .hbm, ⟨22, _⟩ => ⟨S63, .f32⟩
  | .hbm, ⟨23, _⟩ => ⟨S1, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S4096, .f32⟩
  | .hbm, ⟨30, _⟩ => ⟨S4096x1, .f32⟩
  | .hbm, ⟨31, _⟩ => ⟨S1x64, .f32⟩
  | .hbm, ⟨32, _⟩ => ⟨S4096x64, .f32⟩
  | .hbm, ⟨33, _⟩ => ⟨S4096x64, .f32⟩
  | .hbm, ⟨34, _⟩ => ⟨S4096x64, .f32⟩
  | .hbm, ⟨35, _⟩ => ⟨S4096x128, .f32⟩
  | .hbm, ⟨36, _⟩ => ⟨S4096x128, .f32⟩
  | .hbm, ⟨37, _⟩ => ⟨S4096x128, .f32⟩
  | .hbm, ⟨38, _⟩ => ⟨S_, .f32⟩
  | .hbm, ⟨39, _⟩ => ⟨S64, .f32⟩
  | .hbm, ⟨40, _⟩ => ⟨S64, .f32⟩
  | .hbm, ⟨41, _⟩ => ⟨S_, .f32⟩
  | .hbm, ⟨42, _⟩ => ⟨S64, .f32⟩
  | .hbm, ⟨43, _⟩ => ⟨S128, .f32⟩
  | .hbm, ⟨44, _⟩ => ⟨S_, .f32⟩
  | .hbm, ⟨45, _⟩ => ⟨S4096x0, .f32⟩
  | .hbm, ⟨46, _⟩ => ⟨S4096x128, .f32⟩
  | .hbm, ⟨47, _⟩ => ⟨S1x128, .f32⟩
  | .hbm, ⟨48, _⟩ => ⟨S4096x128, .f32⟩
  | .hbm, ⟨49, _⟩ => ⟨S4096x128, .f32⟩
  | .hbm, ⟨50, _⟩ => ⟨S_, .f32⟩
  | .hbm, ⟨51, _⟩ => ⟨S4096x0, .f32⟩
  | .hbm, ⟨52, _⟩ => ⟨S4096x128, .f32⟩
  | .hbm, ⟨53, _⟩ => ⟨S5, .f32⟩
  | .hbm, ⟨54, _⟩ => ⟨S_, .f32⟩
  | .hbm, ⟨55, _⟩ => ⟨S5, .f32⟩
  | .hbm, ⟨56, _⟩ => ⟨S5, .f32⟩
  | .hbm, ⟨57, _⟩ => ⟨S_, .f32⟩
  | .hbm, ⟨58, _⟩ => ⟨S5, .f32⟩
  | .hbm, ⟨59, _⟩ => ⟨S5, .f32⟩
  | .hbm, ⟨60, _⟩ => ⟨S5, .f32⟩
  | .hbm, ⟨61, _⟩ => ⟨S5, .f32⟩
  | .hbm, ⟨62, _⟩ => ⟨S5, .f32⟩
  | .hbm, ⟨63, _⟩ => ⟨S128, .f32⟩
  | .hbm, ⟨64, _⟩ => ⟨S5x1, .f32⟩
  | .hbm, ⟨65, _⟩ => ⟨S_, .i1⟩
  | .hbm, ⟨66, _⟩ => ⟨S128x128, .i1⟩
  | .hbm, ⟨67, _⟩ => ⟨S128x128, .i32⟩
  | .hbm, ⟨68, _⟩ => ⟨S_, .i32⟩
  | .hbm, ⟨69, _⟩ => ⟨S128x128, .i32⟩
  | .hbm, ⟨70, _⟩ => ⟨S128x128, .i32⟩
  | .hbm, ⟨71, _⟩ => ⟨S128x128, .i32⟩
  | .hbm, ⟨72, _⟩ => ⟨S128x128, .i1⟩
  | .hbm, ⟨73, _⟩ => ⟨S_, .i1⟩
  | .hbm, ⟨74, _⟩ => ⟨S128x128, .i1⟩
  | .hbm, ⟨75, _⟩ => ⟨S128x128, .i1⟩
  | .hbm, ⟨76, _⟩ => ⟨S128x1, .f32⟩
  | .hbm, ⟨77, _⟩ => ⟨S1x128, .f32⟩
  | .hbm, ⟨78, _⟩ => ⟨S128x128, .f32⟩
  | .hbm, ⟨79, _⟩ => ⟨S128x128, .f32⟩
  | .hbm, ⟨80, _⟩ => ⟨S128x128, .f32⟩
  | .hbm, ⟨81, _⟩ => ⟨S5x1x1, .f32⟩
  | .hbm, ⟨82, _⟩ => ⟨S1x128x128, .f32⟩
  | .hbm, ⟨83, _⟩ => ⟨S5x128x128, .f32⟩
  | .hbm, ⟨84, _⟩ => ⟨S5x128x128, .f32⟩
  | .hbm, ⟨85, _⟩ => ⟨S5x128x128, .f32⟩
  | .hbm, ⟨86, _⟩ => ⟨S_, .f32⟩
  | .hbm, ⟨87, _⟩ => ⟨S_, .f32⟩
  | .hbm, ⟨88, _⟩ => ⟨S5x128x128, .i1⟩
  | .hbm, ⟨89, _⟩ => ⟨S5x128x128, .f32⟩
  | .hbm, ⟨90, _⟩ => ⟨S5x128x128, .f32⟩
  | .hbm, ⟨91, _⟩ => ⟨S5x128x128, .f32⟩
  | .hbm, ⟨92, _⟩ => ⟨S_, .f32⟩
  | .hbm, ⟨93, _⟩ => ⟨S_, .f32⟩
  | .hbm, ⟨94, _⟩ => ⟨S5x128x128, .i1⟩
  | .hbm, ⟨95, _⟩ => ⟨S5x128x128, .f32⟩
  | .hbm, ⟨96, _⟩ => ⟨S5x128x128, .f32⟩
  | .hbm, ⟨97, _⟩ => ⟨S_, .f32⟩
  | .hbm, ⟨98, _⟩ => ⟨S128, .f32⟩
  | .hbm, ⟨99, _⟩ => ⟨S128, .f32⟩
  | .hbm, ⟨100, _⟩ => ⟨S1x128, .f32⟩
  | .hbm, ⟨101, _⟩ => ⟨S5x128, .f32⟩
  | .hbm, ⟨102, _⟩ => ⟨S5x128, .f32⟩
  | .hbm, ⟨103, _⟩ => ⟨S5x128, .f32⟩
  | .hbm, ⟨104, _⟩ => ⟨S5x128, .f32⟩
  | .hbm, ⟨105, _⟩ => ⟨S_, .f32⟩
  | .hbm, ⟨106, _⟩ => ⟨S128, .f32⟩
  | .hbm, ⟨107, _⟩ => ⟨S128, .f32⟩
  | .hbm, ⟨108, _⟩ => ⟨S1x128, .f32⟩
  | .hbm, ⟨109, _⟩ => ⟨S5x128, .f32⟩
  | .hbm, ⟨110, _⟩ => ⟨S5x128, .f32⟩
  | .hbm, ⟨111, _⟩ => ⟨S5x128, .f32⟩
  | .hbm, ⟨112, _⟩ => ⟨S5x128, .f32⟩
  | .hbm, ⟨113, _⟩ => ⟨S_, .f32⟩
  | .hbm, ⟨114, _⟩ => ⟨S5, .f32⟩
  | .hbm, ⟨115, _⟩ => ⟨S5, .f32⟩
  | .hbm, ⟨116, _⟩ => ⟨S5, .f32⟩
  | .hbm, ⟨117, _⟩ => ⟨S5x1x1, .f32⟩
  | .hbm, ⟨118, _⟩ => ⟨S5x8x128, .f32⟩
  | .hbm, ⟨119, _⟩ => ⟨S5x128x1, .f32⟩
  | .hbm, ⟨120, _⟩ => ⟨S5x128x128, .f32⟩
  | .hbm, ⟨121, _⟩ => ⟨S5x128x1, .f32⟩
  | .hbm, ⟨122, _⟩ => ⟨S5x128x128, .f32⟩
  | .hbm, ⟨123, _⟩ => ⟨S5x1x128, .f32⟩
  | .hbm, ⟨124, _⟩ => ⟨S16384x640, .bf16⟩
  | .local _ .vmem, ⟨0, _⟩ => ⟨S512x640, .f32⟩
  | .local _ .vmem, ⟨1, _⟩ => ⟨S512x640, .f32⟩
  | .local _ .vmem, ⟨2, _⟩ => ⟨S512x640, .f32⟩
  | .local _ .vmem, ⟨3, _⟩ => ⟨S512x640, .f32⟩
  | .local _ .vmem, ⟨4, _⟩ => ⟨S512x640, .f32⟩
  | .local _ .vmem, ⟨5, _⟩ => ⟨S512x640, .f32⟩
  | .local _ .vmem, ⟨6, _⟩ => ⟨S512x640, .f32⟩
  | .local _ .vmem, ⟨7, _⟩ => ⟨S512x640, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S5x128x128, .f32⟩
  | .local _ .vmem, ⟨13, _⟩ => ⟨S5x128x128, .f32⟩
  | .local _ .vmem, ⟨14, _⟩ => ⟨S5x128x128, .f32⟩
  | .local _ .vmem, ⟨15, _⟩ => ⟨S5x8x128, .f32⟩
  | .local _ .vmem, ⟨16, _⟩ => ⟨S5x1x128, .f32⟩
  | .local _ .vmem, ⟨17, _⟩ => ⟨S512x640, .bf16⟩
  | .local _ .vmem, ⟨18, _⟩ => ⟨S512x640, .bf16⟩
  | .local _ .vmem, ⟨19, _⟩ => ⟨S5x128x128, .f32⟩
  | _, _ => ⟨S16384x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst_1 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_v0 : Ref sig .tc := ⟨.hbm, 24, rfl⟩
abbrev main_v1 : Ref sig .tc := ⟨.hbm, 25, rfl⟩
abbrev main_cst_1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_cst_2 : Ref sig .tc := ⟨.hbm, 38, rfl⟩
abbrev main_v13 : Ref sig .tc := ⟨.hbm, 39, rfl⟩
abbrev main_v14 : Ref sig .tc := ⟨.hbm, 40, rfl⟩
abbrev main_cst_3 : Ref sig .tc := ⟨.hbm, 41, rfl⟩
abbrev main_v15 : Ref sig .tc := ⟨.hbm, 42, rfl⟩
abbrev main_v16 : Ref sig .tc := ⟨.hbm, 43, rfl⟩
abbrev main_cst_4 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst_5 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst_6 : Ref sig .tc := ⟨.hbm, 54, rfl⟩
abbrev main_v25 : Ref sig .tc := ⟨.hbm, 55, rfl⟩
abbrev main_v26 : Ref sig .tc := ⟨.hbm, 56, rfl⟩
abbrev main_cst_7 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_c : Ref sig .tc := ⟨.hbm, 65, rfl⟩
abbrev main_v34 : Ref sig .tc := ⟨.hbm, 66, rfl⟩
abbrev main_call1_v0 : Ref sig .tc := ⟨.hbm, 67, rfl⟩
abbrev main_call1_c : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_c_0 : Ref sig .tc := ⟨.hbm, 73, rfl⟩
abbrev main_call1_v5 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_cst_8 : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_v46 : Ref sig .tc := ⟨.hbm, 90, rfl⟩
abbrev main_v47 : Ref sig .tc := ⟨.hbm, 91, rfl⟩
abbrev main_cst_9 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_v48 : Ref sig .tc := ⟨.hbm, 96, rfl⟩
abbrev main_cst_10 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_cst_11 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_cst_12 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c8_i32_0 : BitVec 32 := 8#32
  let c0_i32 : BitVec 32 := 0#32
  ![v1.toNat, c8_i32_0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c9_i32 : BitVec 32 := 9#32
  let c0_i32 : BitVec 32 := 0#32
  ![v1.toNat, c9_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c10_i32 : BitVec 32 := 10#32
  let c0_i32 : BitVec 32 := 0#32
  ![v1.toNat, c10_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c11_i32 : BitVec 32 := 11#32
  let c0_i32 : BitVec 32 := 0#32
  ![v1.toNat, c11_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S5x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S5x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S5x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S5x8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S5x1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x640 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== RetRefIdeal.lean ====
abbrev S16384x7680 : Shape := ⟨2, ![16384, 7680]⟩
abbrev S640 : Shape := ⟨1, ![640]⟩
abbrev S4x4096x7680 : Shape := ⟨3, ![4, 4096, 7680]⟩
abbrev S4x4096x2560 : Shape := ⟨3, ![4, 4096, 2560]⟩
abbrev S4x4096x640 : Shape := ⟨3, ![4, 4096, 640]⟩
abbrev S_ : Shape := ⟨0, ![]⟩
abbrev S63 : Shape := ⟨1, ![63]⟩
abbrev S1 : Shape := ⟨1, ![1]⟩
abbrev S64 : Shape := ⟨1, ![64]⟩
abbrev S5 : Shape := ⟨1, ![5]⟩
abbrev S4x4096x5x128 : Shape := ⟨4, ![4, 4096, 5, 128]⟩
abbrev S4x5x4096x128 : Shape := ⟨4, ![4, 5, 4096, 128]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S4x5x4096x64 : Shape := ⟨4, ![4, 5, 4096, 64]⟩
abbrev S1x1x4096x128 : Shape := ⟨4, ![1, 1, 4096, 128]⟩
abbrev S4x5x4096x0 : Shape := ⟨4, ![4, 5, 4096, 0]⟩
abbrev S4x5x32x128x128 : Shape := ⟨5, ![4, 5, 32, 128, 128]⟩
abbrev S128 : Shape := ⟨1, ![128]⟩
abbrev S5x1 : Shape := ⟨2, ![5, 1]⟩
abbrev S128x128 : Shape := ⟨2, ![128, 128]⟩
abbrev S128x1 : Shape := ⟨2, ![128, 1]⟩
abbrev S1x128 : Shape := ⟨2, ![1, 128]⟩
abbrev S5x1x1 : Shape := ⟨3, ![5, 1, 1]⟩
abbrev S1x128x128 : Shape := ⟨3, ![1, 128, 128]⟩
abbrev S5x128x128 : Shape := ⟨3, ![5, 128, 128]⟩
abbrev S1x5x1x128x128 : Shape := ⟨5, ![1, 5, 1, 128, 128]⟩
abbrev S5x128 : Shape := ⟨2, ![5, 128]⟩
abbrev S1x5x1x128x1 : Shape := ⟨5, ![1, 5, 1, 128, 1]⟩
abbrev S1x5x1x1 : Shape := ⟨4, ![1, 5, 1, 1]⟩
abbrev S4x5x128x128 : Shape := ⟨4, ![4, 5, 128, 128]⟩
abbrev S4x5x1x128x128 : Shape := ⟨5, ![4, 5, 1, 128, 128]⟩
abbrev S4x5x16x128x128 : Shape := ⟨5, ![4, 5, 16, 128, 128]⟩
abbrev S5x1x128 : Shape := ⟨3, ![5, 1, 128]⟩
abbrev S4x5x4096 : Shape := ⟨3, ![4, 5, 4096]⟩
abbrev S4x5x4096x1 : Shape := ⟨4, ![4, 5, 4096, 1]⟩
abbrev S1x5x1x128 : Shape := ⟨4, ![1, 5, 1, 128]⟩
abbrev S16384x640 : Shape := ⟨2, ![16384, 640]⟩

abbrev nBuf : Space → Nat
  | .hbm => 399
  | .vmem => 0
  | .smem => 0
  | _ => 0

abbrev hbmTy0_0 (i : Nat) : BufTy := match i % 128 with
  | 0 => ⟨S16384x7680, .f32⟩
  | 1 => ⟨S640, .f32⟩
  | 2 => ⟨S4x4096x7680, .f32⟩
  | 3 => ⟨S4x4096x2560, .f32⟩
  | 4 => ⟨S4x4096x640, .f32⟩
  | 5 => ⟨S4x4096x640, .f32⟩
  | 6 => ⟨S4x4096x640, .f32⟩
  | 7 => ⟨S4x4096x640, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S63, .f32⟩
  | 16 => ⟨S_, .f32⟩
  | 17 => ⟨S63, .f32⟩
  | 18 => ⟨S63, .f32⟩
  | 19 => ⟨S1, .f32⟩
  | 20 => ⟨S_, .f32⟩
  | 21 => ⟨S63, .f32⟩
  | 22 => ⟨S63, .f32⟩
  | 23 => ⟨S63, .f32⟩
  | 24 => ⟨S63, .f32⟩
  | 25 => ⟨S1, .f32⟩
  | 26 => ⟨S63, .f32⟩
  | 27 => ⟨S63, .f32⟩
  | 28 => ⟨S63, .f32⟩
  | 29 => ⟨S1, .f32⟩
  | 30 => ⟨S64, .f32⟩
  | 31 => ⟨S64, .f32⟩
  | 32 => ⟨S_, .f32⟩
  | 33 => ⟨S64, .f32⟩
  | 34 => ⟨S64, .f32⟩
  | 35 => ⟨S5, .f32⟩
  | 36 => ⟨S_, .f32⟩
  | 37 => ⟨S5, .f32⟩
  | 38 => ⟨S5, .f32⟩
  | 39 => ⟨S_, .f32⟩
  | 40 => ⟨S5, .f32⟩
  | 41 => ⟨S5, .f32⟩
  | 42 => ⟨S5, .f32⟩
  | 43 => ⟨S5, .f32⟩
  | 44 => ⟨S5, .f32⟩
  | 45 => ⟨S4x4096x5x128, .f32⟩
  | 46 => ⟨S4x5x4096x128, .f32⟩
  | 47 => ⟨S4096, .f32⟩
  | 48 => ⟨S4096x1, .f32⟩
  | 49 => ⟨S1x64, .f32⟩
  | 50 => ⟨S4096x64, .f32⟩
  | 51 => ⟨S4096x64, .f32⟩
  | 52 => ⟨S4096x64, .f32⟩
  | 53 => ⟨S4096x128, .f32⟩
  | 54 => ⟨S4096x128, .f32⟩
  | 55 => ⟨S4096x128, .f32⟩
  | 56 => ⟨S4x5x4096x64, .f32⟩
  | 57 => ⟨S4x5x4096x64, .f32⟩
  | 58 => ⟨S1x1x4096x128, .f32⟩
  | 59 => ⟨S4x5x4096x128, .f32⟩
  | 60 => ⟨S4x5x4096x128, .f32⟩
  | 61 => ⟨S4x5x4096x64, .f32⟩
  | 62 => ⟨S4x5x4096x128, .f32⟩
  | 63 => ⟨S1x1x4096x128, .f32⟩
  | 64 => ⟨S4x5x4096x128, .f32⟩
  | 65 => ⟨S4x5x4096x128, .f32⟩
  | 66 => ⟨S4x5x4096x128, .f32⟩
  | 67 => ⟨S4x5x4096x0, .f32⟩
  | 68 => ⟨S4x5x4096x128, .f32⟩
  | 69 => ⟨S4x4096x5x128, .f32⟩
  | 70 => ⟨S4x5x4096x128, .f32⟩
  | 71 => ⟨S4096, .f32⟩
  | 72 => ⟨S4096x1, .f32⟩
  | 73 => ⟨S1x64, .f32⟩
  | 74 => ⟨S4096x64, .f32⟩
  | 75 => ⟨S4096x64, .f32⟩
  | 76 => ⟨S4096x64, .f32⟩
  | 77 => ⟨S4096x128, .f32⟩
  | 78 => ⟨S4096x128, .f32⟩
  | 79 => ⟨S4096x128, .f32⟩
  | 80 => ⟨S4x5x4096x64, .f32⟩
  | 81 => ⟨S4x5x4096x64, .f32⟩
  | 82 => ⟨S1x1x4096x128, .f32⟩
  | 83 => ⟨S4x5x4096x128, .f32⟩
  | 84 => ⟨S4x5x4096x128, .f32⟩
  | 85 => ⟨S4x5x4096x64, .f32⟩
  | 86 => ⟨S4x5x4096x128, .f32⟩
  | 87 => ⟨S1x1x4096x128, .f32⟩
  | 88 => ⟨S4x5x4096x128, .f32⟩
  | 89 => ⟨S4x5x4096x128, .f32⟩
  | 90 => ⟨S4x5x4096x128, .f32⟩
  | 91 => ⟨S4x5x4096x0, .f32⟩
  | 92 => ⟨S4x5x4096x128, .f32⟩
  | 93 => ⟨S4x4096x5x128, .f32⟩
  | 94 => ⟨S4x5x4096x128, .f32⟩
  | 95 => ⟨S_, .f32⟩
  | 96 => ⟨S4x5x4096x128, .f32⟩
  | 97 => ⟨S4x5x4096x128, .f32⟩
  | 98 => ⟨S4x5x32x128x128, .f32⟩
  | 99 => ⟨S4x5x32x128x128, .f32⟩
  | 100 => ⟨S4x5x32x128x128, .f32⟩
  | 101 => ⟨S128, .f32⟩
  | 102 => ⟨S5x1, .f32⟩
  | 103 => ⟨S_, .i1⟩
  | 104 => ⟨S128x128, .i1⟩
  | 105 => ⟨S128x128, .i32⟩
  | 106 => ⟨S_, .i32⟩
  | 107 => ⟨S128x128, .i32⟩
  | 108 => ⟨S128x128, .i32⟩
  | 109 => ⟨S128x128, .i32⟩
  | 110 => ⟨S128x128, .i1⟩
  | 111 => ⟨S_, .i1⟩
  | 112 => ⟨S128x128, .i1⟩
  | 113 => ⟨S128x128, .i1⟩
  | 114 => ⟨S128x1, .f32⟩
  | 115 => ⟨S1x128, .f32⟩
  | 116 => ⟨S128x128, .f32⟩
  | 117 => ⟨S128x128, .f32⟩
  | 118 => ⟨S128x128, .f32⟩
  | 119 => ⟨S5x1x1, .f32⟩
  | 120 => ⟨S1x128x128, .f32⟩
  | 121 => ⟨S5x128x128, .f32⟩
  | 122 => ⟨S5x128x128, .f32⟩
  | 123 => ⟨S5x128x128, .f32⟩
  | 124 => ⟨S_, .f32⟩
  | 125 => ⟨S_, .f32⟩
  | 126 => ⟨S5x128x128, .i1⟩
  | 127 => ⟨S5x128x128, .f32⟩
  | _ => ⟨S16384x7680, .f32⟩

abbrev hbmTy0_1 (i : Nat) : BufTy := match i % 128 with
  | 0 => ⟨S5x128x128, .f32⟩
  | 1 => ⟨S5x128x128, .f32⟩
  | 2 => ⟨S_, .f32⟩
  | 3 => ⟨S_, .f32⟩
  | 4 => ⟨S5x128x128, .i1⟩
  | 5 => ⟨S5x128x128, .f32⟩
  | 6 => ⟨S5x128x128, .f32⟩
  | 7 => ⟨S4x5x32x128x128, .f32⟩
  | 8 => ⟨S1x5x1x128x128, .f32⟩
  | 9 => ⟨S4x5x32x128x128, .f32⟩
  | 10 => ⟨S4x5x32x128x128, .f32⟩
  | 11 => ⟨S4x5x32x128x128, .f32⟩
  | 12 => ⟨S_, .f32⟩
  | 13 => ⟨S128, .f32⟩
  | 14 => ⟨S128, .f32⟩
  | 15 => ⟨S1x128, .f32⟩
  | 16 => ⟨S5x128, .f32⟩
  | 17 => ⟨S5x128, .f32⟩
  | 18 => ⟨S5x128, .f32⟩
  | 19 => ⟨S5x128, .f32⟩
  | 20 => ⟨S1x5x1x128x1, .f32⟩
  | 21 => ⟨S4x5x32x128x128, .f32⟩
  | 22 => ⟨S4x5x32x128x128, .f32⟩
  | 23 => ⟨S4x5x32x128x128, .f32⟩
  | 24 => ⟨S_, .f32⟩
  | 25 => ⟨S5, .f32⟩
  | 26 => ⟨S5, .f32⟩
  | 27 => ⟨S5, .f32⟩
  | 28 => ⟨S1x5x1x1, .f32⟩
  | 29 => ⟨S_, .f32⟩
  | 30 => ⟨S4x5x128x128, .f32⟩
  | 31 => ⟨S4x5x128x128, .f32⟩
  | 32 => ⟨S4x5x128x128, .f32⟩
  | 33 => ⟨S4x5x1x128x128, .f32⟩
  | 34 => ⟨S4x5x128x128, .f32⟩
  | 35 => ⟨S4x5x128x128, .f32⟩
  | 36 => ⟨S4x5x128x128, .f32⟩
  | 37 => ⟨S4x5x128x128, .f32⟩
  | 38 => ⟨S4x5x1x128x128, .f32⟩
  | 39 => ⟨S4x5x128x128, .f32⟩
  | 40 => ⟨S4x5x128x128, .f32⟩
  | 41 => ⟨S4x5x128x128, .f32⟩
  | 42 => ⟨S4x5x128x128, .f32⟩
  | 43 => ⟨S4x5x1x128x128, .f32⟩
  | 44 => ⟨S4x5x128x128, .f32⟩
  | 45 => ⟨S4x5x128x128, .f32⟩
  | 46 => ⟨S4x5x128x128, .f32⟩
  | 47 => ⟨S4x5x128x128, .f32⟩
  | 48 => ⟨S4x5x1x128x128, .f32⟩
  | 49 => ⟨S4x5x128x128, .f32⟩
  | 50 => ⟨S4x5x128x128, .f32⟩
  | 51 => ⟨S4x5x128x128, .f32⟩
  | 52 => ⟨S4x5x128x128, .f32⟩
  | 53 => ⟨S4x5x1x128x128, .f32⟩
  | 54 => ⟨S4x5x128x128, .f32⟩
  | 55 => ⟨S4x5x128x128, .f32⟩
  | 56 => ⟨S4x5x128x128, .f32⟩
  | 57 => ⟨S4x5x128x128, .f32⟩
  | 58 => ⟨S4x5x1x128x128, .f32⟩
  | 59 => ⟨S4x5x128x128, .f32⟩
  | 60 => ⟨S4x5x128x128, .f32⟩
  | 61 => ⟨S4x5x128x128, .f32⟩
  | 62 => ⟨S4x5x128x128, .f32⟩
  | 63 => ⟨S4x5x1x128x128, .f32⟩
  | 64 => ⟨S4x5x128x128, .f32⟩
  | 65 => ⟨S4x5x128x128, .f32⟩
  | 66 => ⟨S4x5x128x128, .f32⟩
  | 67 => ⟨S4x5x128x128, .f32⟩
  | 68 => ⟨S4x5x1x128x128, .f32⟩
  | 69 => ⟨S4x5x128x128, .f32⟩
  | 70 => ⟨S4x5x128x128, .f32⟩
  | 71 => ⟨S4x5x128x128, .f32⟩
  | 72 => ⟨S4x5x128x128, .f32⟩
  | 73 => ⟨S4x5x1x128x128, .f32⟩
  | 74 => ⟨S4x5x128x128, .f32⟩
  | 75 => ⟨S4x5x128x128, .f32⟩
  | 76 => ⟨S4x5x128x128, .f32⟩
  | 77 => ⟨S4x5x128x128, .f32⟩
  | 78 => ⟨S4x5x1x128x128, .f32⟩
  | 79 => ⟨S4x5x128x128, .f32⟩
  | 80 => ⟨S4x5x128x128, .f32⟩
  | 81 => ⟨S4x5x128x128, .f32⟩
  | 82 => ⟨S4x5x128x128, .f32⟩
  | 83 => ⟨S4x5x1x128x128, .f32⟩
  | 84 => ⟨S4x5x128x128, .f32⟩
  | 85 => ⟨S4x5x128x128, .f32⟩
  | 86 => ⟨S4x5x128x128, .f32⟩
  | 87 => ⟨S4x5x128x128, .f32⟩
  | 88 => ⟨S4x5x1x128x128, .f32⟩
  | 89 => ⟨S4x5x128x128, .f32⟩
  | 90 => ⟨S4x5x128x128, .f32⟩
  | 91 => ⟨S4x5x128x128, .f32⟩
  | 92 => ⟨S4x5x128x128, .f32⟩
  | 93 => ⟨S4x5x1x128x128, .f32⟩
  | 94 => ⟨S4x5x128x128, .f32⟩
  | 95 => ⟨S4x5x128x128, .f32⟩
  | 96 => ⟨S4x5x128x128, .f32⟩
  | 97 => ⟨S4x5x128x128, .f32⟩
  | 98 => ⟨S4x5x1x128x128, .f32⟩
  | 99 => ⟨S4x5x128x128, .f32⟩
  | 100 => ⟨S4x5x128x128, .f32⟩
  | 101 => ⟨S4x5x128x128, .f32⟩
  | 102 => ⟨S4x5x128x128, .f32⟩
  | 103 => ⟨S4x5x1x128x128, .f32⟩
  | 104 => ⟨S4x5x128x128, .f32⟩
  | 105 => ⟨S4x5x128x128, .f32⟩
  | 106 => ⟨S4x5x128x128, .f32⟩
  | 107 => ⟨S4x5x128x128, .f32⟩
  | 108 => ⟨S4x5x1x128x128, .f32⟩
  | 109 => ⟨S4x5x128x128, .f32⟩
  | 110 => ⟨S4x5x128x128, .f32⟩
  | 111 => ⟨S4x5x128x128, .f32⟩
  | 112 => ⟨S4x5x128x128, .f32⟩
  | 113 => ⟨S4x5x1x128x128, .f32⟩
  | 114 => ⟨S4x5x128x128, .f32⟩
  | 115 => ⟨S4x5x128x128, .f32⟩
  | 116 => ⟨S4x5x128x128, .f32⟩
  | 117 => ⟨S4x5x128x128, .f32⟩
  | 118 => ⟨S4x5x1x128x128, .f32⟩
  | 119 => ⟨S4x5x128x128, .f32⟩
  | 120 => ⟨S4x5x128x128, .f32⟩
  | 121 => ⟨S4x5x128x128, .f32⟩
  | 122 => ⟨S4x5x128x128, .f32⟩
  | 123 => ⟨S4x5x1x128x128, .f32⟩
  | 124 => ⟨S4x5x128x128, .f32⟩
  | 125 => ⟨S4x5x128x128, .f32⟩
  | 126 => ⟨S4x5x128x128, .f32⟩
  | 127 => ⟨S4x5x128x128, .f32⟩
  | _ => ⟨S16384x7680, .f32⟩

abbrev hbmTy0_2 (i : Nat) : BufTy := match i % 128 with
  | 0 => ⟨S4x5x1x128x128, .f32⟩
  | 1 => ⟨S4x5x128x128, .f32⟩
  | 2 => ⟨S4x5x128x128, .f32⟩
  | 3 => ⟨S4x5x128x128, .f32⟩
  | 4 => ⟨S4x5x128x128, .f32⟩
  | 5 => ⟨S4x5x1x128x128, .f32⟩
  | 6 => ⟨S4x5x128x128, .f32⟩
  | 7 => ⟨S4x5x128x128, .f32⟩
  | 8 => ⟨S4x5x128x128, .f32⟩
  | 9 => ⟨S4x5x128x128, .f32⟩
  | 10 => ⟨S4x5x1x128x128, .f32⟩
  | 11 => ⟨S4x5x128x128, .f32⟩
  | 12 => ⟨S4x5x128x128, .f32⟩
  | 13 => ⟨S4x5x128x128, .f32⟩
  | 14 => ⟨S4x5x128x128, .f32⟩
  | 15 => ⟨S4x5x1x128x128, .f32⟩
  | 16 => ⟨S4x5x128x128, .f32⟩
  | 17 => ⟨S4x5x128x128, .f32⟩
  | 18 => ⟨S4x5x128x128, .f32⟩
  | 19 => ⟨S4x5x128x128, .f32⟩
  | 20 => ⟨S4x5x1x128x128, .f32⟩
  | 21 => ⟨S4x5x128x128, .f32⟩
  | 22 => ⟨S4x5x128x128, .f32⟩
  | 23 => ⟨S4x5x128x128, .f32⟩
  | 24 => ⟨S4x5x128x128, .f32⟩
  | 25 => ⟨S4x5x1x128x128, .f32⟩
  | 26 => ⟨S4x5x128x128, .f32⟩
  | 27 => ⟨S4x5x128x128, .f32⟩
  | 28 => ⟨S4x5x128x128, .f32⟩
  | 29 => ⟨S4x5x128x128, .f32⟩
  | 30 => ⟨S4x5x1x128x128, .f32⟩
  | 31 => ⟨S4x5x128x128, .f32⟩
  | 32 => ⟨S4x5x128x128, .f32⟩
  | 33 => ⟨S4x5x128x128, .f32⟩
  | 34 => ⟨S4x5x128x128, .f32⟩
  | 35 => ⟨S4x5x1x128x128, .f32⟩
  | 36 => ⟨S4x5x128x128, .f32⟩
  | 37 => ⟨S4x5x128x128, .f32⟩
  | 38 => ⟨S4x5x128x128, .f32⟩
  | 39 => ⟨S4x5x128x128, .f32⟩
  | 40 => ⟨S4x5x1x128x128, .f32⟩
  | 41 => ⟨S4x5x128x128, .f32⟩
  | 42 => ⟨S4x5x128x128, .f32⟩
  | 43 => ⟨S4x5x128x128, .f32⟩
  | 44 => ⟨S4x5x128x128, .f32⟩
  | 45 => ⟨S4x5x1x128x128, .f32⟩
  | 46 => ⟨S4x5x128x128, .f32⟩
  | 47 => ⟨S4x5x128x128, .f32⟩
  | 48 => ⟨S4x5x128x128, .f32⟩
  | 49 => ⟨S4x5x128x128, .f32⟩
  | 50 => ⟨S4x5x1x128x128, .f32⟩
  | 51 => ⟨S4x5x128x128, .f32⟩
  | 52 => ⟨S4x5x128x128, .f32⟩
  | 53 => ⟨S4x5x128x128, .f32⟩
  | 54 => ⟨S4x5x128x128, .f32⟩
  | 55 => ⟨S4x5x1x128x128, .f32⟩
  | 56 => ⟨S4x5x128x128, .f32⟩
  | 57 => ⟨S4x5x128x128, .f32⟩
  | 58 => ⟨S4x5x128x128, .f32⟩
  | 59 => ⟨S4x5x128x128, .f32⟩
  | 60 => ⟨S4x5x1x128x128, .f32⟩
  | 61 => ⟨S4x5x128x128, .f32⟩
  | 62 => ⟨S4x5x128x128, .f32⟩
  | 63 => ⟨S4x5x1x128x128, .f32⟩
  | 64 => ⟨S4x5x1x128x128, .f32⟩
  | 65 => ⟨S4x5x1x128x128, .f32⟩
  | 66 => ⟨S4x5x1x128x128, .f32⟩
  | 67 => ⟨S4x5x1x128x128, .f32⟩
  | 68 => ⟨S4x5x1x128x128, .f32⟩
  | 69 => ⟨S4x5x1x128x128, .f32⟩
  | 70 => ⟨S4x5x1x128x128, .f32⟩
  | 71 => ⟨S4x5x1x128x128, .f32⟩
  | 72 => ⟨S4x5x1x128x128, .f32⟩
  | 73 => ⟨S4x5x1x128x128, .f32⟩
  | 74 => ⟨S4x5x1x128x128, .f32⟩
  | 75 => ⟨S4x5x1x128x128, .f32⟩
  | 76 => ⟨S4x5x1x128x128, .f32⟩
  | 77 => ⟨S4x5x1x128x128, .f32⟩
  | 78 => ⟨S4x5x1x128x128, .f32⟩
  | 79 => ⟨S4x5x1x128x128, .f32⟩
  | 80 => ⟨S4x5x1x128x128, .f32⟩
  | 81 => ⟨S4x5x1x128x128, .f32⟩
  | 82 => ⟨S4x5x1x128x128, .f32⟩
  | 83 => ⟨S4x5x1x128x128, .f32⟩
  | 84 => ⟨S4x5x1x128x128, .f32⟩
  | 85 => ⟨S4x5x1x128x128, .f32⟩
  | 86 => ⟨S4x5x1x128x128, .f32⟩
  | 87 => ⟨S4x5x1x128x128, .f32⟩
  | 88 => ⟨S4x5x1x128x128, .f32⟩
  | 89 => ⟨S4x5x1x128x128, .f32⟩
  | 90 => ⟨S4x5x1x128x128, .f32⟩
  | 91 => ⟨S4x5x1x128x128, .f32⟩
  | 92 => ⟨S4x5x1x128x128, .f32⟩
  | 93 => ⟨S4x5x1x128x128, .f32⟩
  | 94 => ⟨S4x5x1x128x128, .f32⟩
  | 95 => ⟨S4x5x16x128x128, .f32⟩
  | 96 => ⟨S4x5x16x128x128, .f32⟩
  | 97 => ⟨S4x5x32x128x128, .f32⟩
  | 98 => ⟨S_, .f32⟩
  | 99 => ⟨S128, .f32⟩
  | 100 => ⟨S128, .f32⟩
  | 101 => ⟨S1x128, .f32⟩
  | 102 => ⟨S5x128, .f32⟩
  | 103 => ⟨S5x128, .f32⟩
  | 104 => ⟨S5x128, .f32⟩
  | 105 => ⟨S5x128, .f32⟩
  | 106 => ⟨S4x5x32x128x128, .f32⟩
  | 107 => ⟨S1x5x1x128x1, .f32⟩
  | 108 => ⟨S4x5x32x128x128, .f32⟩
  | 109 => ⟨S4x5x32x128x128, .f32⟩
  | 110 => ⟨S4x5x32x128x128, .f32⟩
  | 111 => ⟨S4x5x4096x128, .f32⟩
  | 112 => ⟨S5x1x128, .f32⟩
  | 113 => ⟨S4x5x4096x128, .f32⟩
  | 114 => ⟨S_, .f32⟩
  | 115 => ⟨S4x5x4096, .f32⟩
  | 116 => ⟨S4x5x4096x1, .f32⟩
  | 117 => ⟨S_, .f32⟩
  | 118 => ⟨S4x5x4096x1, .f32⟩
  | 119 => ⟨S4x5x4096x1, .f32⟩
  | 120 => ⟨S_, .f32⟩
  | 121 => ⟨S4x5x4096x1, .f32⟩
  | 122 => ⟨S4x5x4096x1, .f32⟩
  | 123 => ⟨S4x5x4096x1, .f32⟩
  | 124 => ⟨S4x5x4096x128, .f32⟩
  | 125 => ⟨S4x5x4096x128, .f32⟩
  | 126 => ⟨S1x5x1x128, .f32⟩
  | 127 => ⟨S4x5x4096x128, .f32⟩
  | _ => ⟨S16384x7680, .f32⟩

abbrev hbmTy0_3 (i : Nat) : BufTy := match i % 128 with
  | 0 => ⟨S4x5x4096x128, .f32⟩
  | 1 => ⟨S4x4096x5x128, .f32⟩
  | 2 => ⟨S4x4096x640, .f32⟩
  | 3 => ⟨S4x4096x640, .f32⟩
  | 4 => ⟨S4x4096x640, .f32⟩
  | 5 => ⟨S_, .f32⟩
  | 6 => ⟨S4x4096x640, .f32⟩
  | 7 => ⟨S4x4096x640, .f32⟩
  | 8 => ⟨S_, .f32⟩
  | 9 => ⟨S4x4096x640, .f32⟩
  | 10 => ⟨S4x4096x640, .f32⟩
  | 11 => ⟨S4x4096x640, .f32⟩
  | 12 => ⟨S4x4096x640, .f32⟩
  | 13 => ⟨S16384x640, .f32⟩
  | 14 => ⟨S16384x640, .bf16⟩
  | _ => ⟨S16384x7680, .f32⟩

abbrev hbmTy (i : Nat) : BufTy := match i / 128 with
  | 0 => hbmTy0_0 i
  | 1 => hbmTy0_1 i
  | 2 => hbmTy0_2 i
  | 3 => hbmTy0_3 i
  | _ => ⟨S16384x7680, .f32⟩

abbrev bufTy : (tb : Table) → Fin (tcTables nBuf tb) → BufTy
  | .hbm, ⟨i, _⟩ => hbmTy i
  | _, _ => ⟨S16384x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_cst : Ref sig .tc := ⟨.hbm, 13, rfl⟩
abbrev main_call0_v3 : Ref sig .tc := ⟨.hbm, 14, rfl⟩
abbrev main_call0_v4 : Ref sig .tc := ⟨.hbm, 15, rfl⟩
abbrev main_call0_cst_0 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_v16 : Ref sig .tc := ⟨.hbm, 29, rfl⟩
abbrev main_v6 : Ref sig .tc := ⟨.hbm, 30, rfl⟩
abbrev main_v7 : Ref sig .tc := ⟨.hbm, 31, rfl⟩
abbrev main_cst_1 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst_2 : Ref sig .tc := ⟨.hbm, 36, rfl⟩
abbrev main_v11 : Ref sig .tc := ⟨.hbm, 37, rfl⟩
abbrev main_v12 : Ref sig .tc := ⟨.hbm, 38, rfl⟩
abbrev main_cst_3 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_4 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_c : Ref sig .tc := ⟨.hbm, 103, rfl⟩
abbrev main_v75 : Ref sig .tc := ⟨.hbm, 104, rfl⟩
abbrev main_call1_v0 : Ref sig .tc := ⟨.hbm, 105, rfl⟩
abbrev main_call1_c : Ref sig .tc := ⟨.hbm, 106, rfl⟩
abbrev main_call1_v1 : Ref sig .tc := ⟨.hbm, 107, rfl⟩
abbrev main_call1_v2 : Ref sig .tc := ⟨.hbm, 108, rfl⟩
abbrev main_call1_v3 : Ref sig .tc := ⟨.hbm, 109, rfl⟩
abbrev main_call1_v4 : Ref sig .tc := ⟨.hbm, 110, rfl⟩
abbrev main_call1_c_0 : Ref sig .tc := ⟨.hbm, 111, rfl⟩
abbrev main_call1_v5 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_5 : Ref sig .tc := ⟨.hbm, 124, rfl⟩
abbrev main_call2_v0 : Ref sig .tc := ⟨.hbm, 125, rfl⟩
abbrev main_call2_v1 : Ref sig .tc := ⟨.hbm, 126, rfl⟩
abbrev main_call2_v2 : Ref sig .tc := ⟨.hbm, 127, rfl⟩
abbrev main_v87 : Ref sig .tc := ⟨.hbm, 128, rfl⟩
abbrev main_v88 : Ref sig .tc := ⟨.hbm, 129, rfl⟩
abbrev main_cst_6 : Ref sig .tc := ⟨.hbm, 130, rfl⟩
abbrev main_call3_v0 : Ref sig .tc := ⟨.hbm, 131, rfl⟩
abbrev main_call3_v1 : Ref sig .tc := ⟨.hbm, 132, rfl⟩
abbrev main_call3_v2 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_cst_7 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_cst_8 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_cst_9 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_v200 : Ref sig .tc := ⟨.hbm, 248, rfl⟩
abbrev main_v201 : Ref sig .tc := ⟨.hbm, 249, rfl⟩
abbrev main_v202 : Ref sig .tc := ⟨.hbm, 250, rfl⟩
abbrev main_v203 : Ref sig .tc := ⟨.hbm, 251, rfl⟩
abbrev main_v204 : Ref sig .tc := ⟨.hbm, 252, rfl⟩
abbrev main_v205 : Ref sig .tc := ⟨.hbm, 253, rfl⟩
abbrev main_v206 : Ref sig .tc := ⟨.hbm, 254, rfl⟩
abbrev main_v207 : Ref sig .tc := ⟨.hbm, 255, rfl⟩
abbrev main_v208 : Ref sig .tc := ⟨.hbm, 256, rfl⟩
abbrev main_v209 : Ref sig .tc := ⟨.hbm, 257, rfl⟩
abbrev main_v210 : Ref sig .tc := ⟨.hbm, 258, rfl⟩
abbrev main_v211 : Ref sig .tc := ⟨.hbm, 259, rfl⟩
abbrev main_v212 : Ref sig .tc := ⟨.hbm, 260, rfl⟩
abbrev main_v213 : Ref sig .tc := ⟨.hbm, 261, rfl⟩
abbrev main_v214 : Ref sig .tc := ⟨.hbm, 262, rfl⟩
abbrev main_v215 : Ref sig .tc := ⟨.hbm, 263, rfl⟩
abbrev main_v216 : Ref sig .tc := ⟨.hbm, 264, rfl⟩
abbrev main_v217 : Ref sig .tc := ⟨.hbm, 265, rfl⟩
abbrev main_v218 : Ref sig .tc := ⟨.hbm, 266, rfl⟩
abbrev main_v219 : Ref sig .tc := ⟨.hbm, 267, rfl⟩
abbrev main_v220 : Ref sig .tc := ⟨.hbm, 268, rfl⟩
abbrev main_v221 : Ref sig .tc := ⟨.hbm, 269, rfl⟩
abbrev main_v222 : Ref sig .tc := ⟨.hbm, 270, rfl⟩
abbrev main_v223 : Ref sig .tc := ⟨.hbm, 271, rfl⟩
abbrev main_v224 : Ref sig .tc := ⟨.hbm, 272, rfl⟩
abbrev main_v225 : Ref sig .tc := ⟨.hbm, 273, rfl⟩
abbrev main_v226 : Ref sig .tc := ⟨.hbm, 274, rfl⟩
abbrev main_v227 : Ref sig .tc := ⟨.hbm, 275, rfl⟩
abbrev main_v228 : Ref sig .tc := ⟨.hbm, 276, rfl⟩
abbrev main_v229 : Ref sig .tc := ⟨.hbm, 277, rfl⟩
abbrev main_v230 : Ref sig .tc := ⟨.hbm, 278, rfl⟩
abbrev main_v231 : Ref sig .tc := ⟨.hbm, 279, rfl⟩
abbrev main_v232 : Ref sig .tc := ⟨.hbm, 280, rfl⟩
abbrev main_v233 : Ref sig .tc := ⟨.hbm, 281, rfl⟩
abbrev main_v234 : Ref sig .tc := ⟨.hbm, 282, rfl⟩
abbrev main_v235 : Ref sig .tc := ⟨.hbm, 283, rfl⟩
abbrev main_v236 : Ref sig .tc := ⟨.hbm, 284, rfl⟩
abbrev main_v237 : Ref sig .tc := ⟨.hbm, 285, rfl⟩
abbrev main_v238 : Ref sig .tc := ⟨.hbm, 286, rfl⟩
abbrev main_v239 : Ref sig .tc := ⟨.hbm, 287, rfl⟩
abbrev main_v240 : Ref sig .tc := ⟨.hbm, 288, rfl⟩
abbrev main_v241 : Ref sig .tc := ⟨.hbm, 289, rfl⟩
abbrev main_v242 : Ref sig .tc := ⟨.hbm, 290, rfl⟩
abbrev main_v243 : Ref sig .tc := ⟨.hbm, 291, rfl⟩
abbrev main_v244 : Ref sig .tc := ⟨.hbm, 292, rfl⟩
abbrev main_v245 : Ref sig .tc := ⟨.hbm, 293, rfl⟩
abbrev main_v246 : Ref sig .tc := ⟨.hbm, 294, rfl⟩
abbrev main_v247 : Ref sig .tc := ⟨.hbm, 295, rfl⟩
abbrev main_v248 : Ref sig .tc := ⟨.hbm, 296, rfl⟩
abbrev main_v249 : Ref sig .tc := ⟨.hbm, 297, rfl⟩
abbrev main_v250 : Ref sig .tc := ⟨.hbm, 298, rfl⟩
abbrev main_v251 : Ref sig .tc := ⟨.hbm, 299, rfl⟩
abbrev main_v252 : Ref sig .tc := ⟨.hbm, 300, rfl⟩
abbrev main_v253 : Ref sig .tc := ⟨.hbm, 301, rfl⟩
abbrev main_v254 : Ref sig .tc := ⟨.hbm, 302, rfl⟩
abbrev main_v255 : Ref sig .tc := ⟨.hbm, 303, rfl⟩
abbrev main_v256 : Ref sig .tc := ⟨.hbm, 304, rfl⟩
abbrev main_v257 : Ref sig .tc := ⟨.hbm, 305, rfl⟩
abbrev main_v258 : Ref sig .tc := ⟨.hbm, 306, rfl⟩
abbrev main_v259 : Ref sig .tc := ⟨.hbm, 307, rfl⟩
abbrev main_v260 : Ref sig .tc := ⟨.hbm, 308, rfl⟩
abbrev main_v261 : Ref sig .tc := ⟨.hbm, 309, rfl⟩
abbrev main_v262 : Ref sig .tc := ⟨.hbm, 310, rfl⟩
abbrev main_v263 : Ref sig .tc := ⟨.hbm, 311, rfl⟩
abbrev main_v264 : Ref sig .tc := ⟨.hbm, 312, rfl⟩
abbrev main_v265 : Ref sig .tc := ⟨.hbm, 313, rfl⟩
abbrev main_v266 : Ref sig .tc := ⟨.hbm, 314, rfl⟩
abbrev main_v267 : Ref sig .tc := ⟨.hbm, 315, rfl⟩
abbrev main_v268 : Ref sig .tc := ⟨.hbm, 316, rfl⟩
abbrev main_v269 : Ref sig .tc := ⟨.hbm, 317, rfl⟩
abbrev main_v270 : Ref sig .tc := ⟨.hbm, 318, rfl⟩
abbrev main_v271 : Ref sig .tc := ⟨.hbm, 319, rfl⟩
abbrev main_v272 : Ref sig .tc := ⟨.hbm, 320, rfl⟩
abbrev main_v273 : Ref sig .tc := ⟨.hbm, 321, rfl⟩
abbrev main_v274 : Ref sig .tc := ⟨.hbm, 322, rfl⟩
abbrev main_v275 : Ref sig .tc := ⟨.hbm, 323, rfl⟩
abbrev main_v276 : Ref sig .tc := ⟨.hbm, 324, rfl⟩
abbrev main_v277 : Ref sig .tc := ⟨.hbm, 325, rfl⟩
abbrev main_v278 : Ref sig .tc := ⟨.hbm, 326, rfl⟩
abbrev main_v279 : Ref sig .tc := ⟨.hbm, 327, rfl⟩
abbrev main_v280 : Ref sig .tc := ⟨.hbm, 328, rfl⟩
abbrev main_v281 : Ref sig .tc := ⟨.hbm, 329, rfl⟩
abbrev main_v282 : Ref sig .tc := ⟨.hbm, 330, rfl⟩
abbrev main_v283 : Ref sig .tc := ⟨.hbm, 331, rfl⟩
abbrev main_v284 : Ref sig .tc := ⟨.hbm, 332, rfl⟩
abbrev main_v285 : Ref sig .tc := ⟨.hbm, 333, rfl⟩
abbrev main_v286 : Ref sig .tc := ⟨.hbm, 334, rfl⟩
abbrev main_v287 : Ref sig .tc := ⟨.hbm, 335, rfl⟩
abbrev main_v288 : Ref sig .tc := ⟨.hbm, 336, rfl⟩
abbrev main_v289 : Ref sig .tc := ⟨.hbm, 337, rfl⟩
abbrev main_v290 : Ref sig .tc := ⟨.hbm, 338, rfl⟩
abbrev main_v291 : Ref sig .tc := ⟨.hbm, 339, rfl⟩
abbrev main_v292 : Ref sig .tc := ⟨.hbm, 340, rfl⟩
abbrev main_v293 : Ref sig .tc := ⟨.hbm, 341, rfl⟩
abbrev main_v294 : Ref sig .tc := ⟨.hbm, 342, rfl⟩
abbrev main_v295 : Ref sig .tc := ⟨.hbm, 343, rfl⟩
abbrev main_v296 : Ref sig .tc := ⟨.hbm, 344, rfl⟩
abbrev main_v297 : Ref sig .tc := ⟨.hbm, 345, rfl⟩
abbrev main_v298 : Ref sig .tc := ⟨.hbm, 346, rfl⟩
abbrev main_v299 : Ref sig .tc := ⟨.hbm, 347, rfl⟩
abbrev main_v300 : Ref sig .tc := ⟨.hbm, 348, rfl⟩
abbrev main_v301 : Ref sig .tc := ⟨.hbm, 349, rfl⟩
abbrev main_v302 : Ref sig .tc := ⟨.hbm, 350, rfl⟩
abbrev main_v303 : Ref sig .tc := ⟨.hbm, 351, rfl⟩
abbrev main_v304 : Ref sig .tc := ⟨.hbm, 352, rfl⟩
abbrev main_v305 : Ref sig .tc := ⟨.hbm, 353, rfl⟩
abbrev main_cst_10 : Ref sig .tc := ⟨.hbm, 354, rfl⟩
abbrev main_v306 : Ref sig .tc := ⟨.hbm, 355, rfl⟩
abbrev main_v307 : Ref sig .tc := ⟨.hbm, 356, rfl⟩
abbrev main_v308 : Ref sig .tc := ⟨.hbm, 357, rfl⟩
abbrev main_v309 : Ref sig .tc := ⟨.hbm, 358, rfl⟩
abbrev main_v310 : Ref sig .tc := ⟨.hbm, 359, rfl⟩
abbrev main_v311 : Ref sig .tc := ⟨.hbm, 360, rfl⟩
abbrev main_v312 : Ref sig .tc := ⟨.hbm, 361, rfl⟩
abbrev main_v313 : Ref sig .tc := ⟨.hbm, 362, rfl⟩
abbrev main_v314 : Ref sig .tc := ⟨.hbm, 363, rfl⟩
abbrev main_v315 : Ref sig .tc := ⟨.hbm, 364, rfl⟩
abbrev main_v316 : Ref sig .tc := ⟨.hbm, 365, rfl⟩
abbrev main_v317 : Ref sig .tc := ⟨.hbm, 366, rfl⟩
abbrev main_v318 : Ref sig .tc := ⟨.hbm, 367, rfl⟩
abbrev main_v319 : Ref sig .tc := ⟨.hbm, 368, rfl⟩
abbrev main_v320 : Ref sig .tc := ⟨.hbm, 369, rfl⟩
abbrev main_cst_11 : Ref sig .tc := ⟨.hbm, 370, rfl⟩
abbrev main_v321 : Ref sig .tc := ⟨.hbm, 371, rfl⟩
abbrev main_v322 : Ref sig .tc := ⟨.hbm, 372, rfl⟩
abbrev main_cst_12 : Ref sig .tc := ⟨.hbm, 373, rfl⟩
abbrev main_v323 : Ref sig .tc := ⟨.hbm, 374, rfl⟩
abbrev main_v324 : Ref sig .tc := ⟨.hbm, 375, rfl⟩
abbrev main_cst_13 : Ref sig .tc := ⟨.hbm, 376, rfl⟩
abbrev main_v325 : Ref sig .tc := ⟨.hbm, 377, rfl⟩
abbrev main_v326 : Ref sig .tc := ⟨.hbm, 378, rfl⟩
abbrev main_v327 : Ref sig .tc := ⟨.hbm, 379, rfl⟩
abbrev main_v328 : Ref sig .tc := ⟨.hbm, 380, rfl⟩
abbrev main_v329 : Ref sig .tc := ⟨.hbm, 381, rfl⟩
abbrev main_v330 : Ref sig .tc := ⟨.hbm, 382, rfl⟩
abbrev main_v331 : Ref sig .tc := ⟨.hbm, 383, rfl⟩
abbrev main_v332 : Ref sig .tc := ⟨.hbm, 384, rfl⟩
abbrev main_v333 : Ref sig .tc := ⟨.hbm, 385, rfl⟩
abbrev main_v334 : Ref sig .tc := ⟨.hbm, 386, rfl⟩
abbrev main_call4_v0 : Ref sig .tc := ⟨.hbm, 387, rfl⟩
abbrev main_call4_v1 : Ref sig .tc := ⟨.hbm, 388, rfl⟩
abbrev main_call4_cst : Ref sig .tc := ⟨.hbm, 389, rfl⟩
abbrev main_call4_v2 : Ref sig .tc := ⟨.hbm, 390, rfl⟩
abbrev main_call4_v3 : Ref sig .tc := ⟨.hbm, 391, rfl⟩
abbrev main_call4_cst_0 : Ref sig .tc := ⟨.hbm, 392, rfl⟩
abbrev main_call4_v4 : Ref sig .tc := ⟨.hbm, 393, rfl⟩
abbrev main_call4_v5 : Ref sig .tc := ⟨.hbm, 394, rfl⟩
abbrev main_v335 : Ref sig .tc := ⟨.hbm, 395, rfl⟩
abbrev main_v336 : Ref sig .tc := ⟨.hbm, 396, rfl⟩
abbrev main_v337 : Ref sig .tc := ⟨.hbm, 397, rfl⟩
abbrev main_v338 : Ref sig .tc := ⟨.hbm, 398, rfl⟩

abbrev nD : Nat := 1
abbrev τ : Topo := Topo.v7x

variable {F : FTy → Type} [FloatOps F]
-- ==== Main.lean ====
abbrev S16384x2048 : Shape := ⟨2, ![16384, 2048]⟩
abbrev S2x2048x13824 : Shape := ⟨3, ![2, 2048, 13824]⟩
abbrev S16384x7680 : Shape := ⟨2, ![16384, 7680]⟩
abbrev S1024x2048 : Shape := ⟨2, ![1024, 2048]⟩
abbrev S1x2048x1536 : Shape := ⟨3, ![1, 2048, 1536]⟩
abbrev S1024x1536 : Shape := ⟨2, ![1024, 1536]⟩
abbrev S2048x1536 : Shape := ⟨2, ![2048, 1536]⟩

abbrev nBuf : Space → Nat
  | .hbm => 3
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2x2048x13824, .bf16⟩
  | .hbm, ⟨2, _⟩ => ⟨S16384x7680, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1536, .bf16⟩
  | .local _ .vmem, ⟨3, _⟩ => ⟨S1x2048x1536, .bf16⟩
  | .local _ .vmem, ⟨4, _⟩ => ⟨S1024x1536, .f32⟩
  | .local _ .vmem, ⟨5, _⟩ => ⟨S1024x1536, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MainRefIdeal.lean ====
abbrev S16384x2048 : Shape := ⟨2, ![16384, 2048]⟩
abbrev S2x2048x13824 : Shape := ⟨3, ![2, 2048, 13824]⟩
abbrev S1x2048x7680 : Shape := ⟨3, ![1, 2048, 7680]⟩
abbrev S2048x7680 : Shape := ⟨2, ![2048, 7680]⟩
abbrev S16384x7680 : Shape := ⟨2, ![16384, 7680]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x13824, .bf16⟩
  | .hbm, ⟨2, _⟩ => ⟨S16384x2048, .f32⟩
  | .hbm, ⟨3, _⟩ => ⟨S1x2048x7680, .bf16⟩
  | .hbm, ⟨4, _⟩ => ⟨S2048x7680, .bf16⟩
  | .hbm, ⟨5, _⟩ => ⟨S2048x7680, .f32⟩
  | .hbm, ⟨6, _⟩ => ⟨S16384x7680, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Merge.lean ====
abbrev S16384x768 : Shape := ⟨2, ![16384, 768]⟩
abbrev S16384x640 : Shape := ⟨2, ![16384, 640]⟩
abbrev S2048x2048 : Shape := ⟨2, ![2048, 2048]⟩
abbrev S16384x6144 : Shape := ⟨2, ![16384, 6144]⟩
abbrev S768x2048 : Shape := ⟨2, ![768, 2048]⟩
abbrev S640x2048 : Shape := ⟨2, ![640, 2048]⟩
abbrev S16384x2048 : Shape := ⟨2, ![16384, 2048]⟩
abbrev S1024x768 : Shape := ⟨2, ![1024, 768]⟩
abbrev S1024x640 : Shape := ⟨2, ![1024, 640]⟩
abbrev S768x1024 : Shape := ⟨2, ![768, 1024]⟩
abbrev S640x1024 : Shape := ⟨2, ![640, 1024]⟩
abbrev S1024x1024 : Shape := ⟨2, ![1024, 1024]⟩

abbrev nBuf : Space → Nat
  | .hbm => 9
  | .vmem => 20
  | .smem => 0
  | _ => 0

abbrev bufTy : (tb : Table) → Fin (tcTables nBuf tb) → BufTy
  | .hbm, ⟨0, _⟩ => ⟨S16384x768, .bf16⟩
  | .hbm, ⟨1, _⟩ => ⟨S16384x640, .bf16⟩
  | .hbm, ⟨2, _⟩ => ⟨S16384x640, .bf16⟩
  | .hbm, ⟨3, _⟩ => ⟨S2048x2048, .bf16⟩
  | .hbm, ⟨4, _⟩ => ⟨S16384x6144, .bf16⟩
  | .hbm, ⟨5, _⟩ => ⟨S768x2048, .bf16⟩
  | .hbm, ⟨6, _⟩ => ⟨S640x2048, .bf16⟩
  | .hbm, ⟨7, _⟩ => ⟨S640x2048, .bf16⟩
  | .hbm, ⟨8, _⟩ => ⟨S16384x2048, .bf16⟩
  | .local _ .vmem, ⟨0, _⟩ => ⟨S1024x768, .bf16⟩
  | .local _ .vmem, ⟨1, _⟩ => ⟨S1024x768, .bf16⟩
  | .local _ .vmem, ⟨2, _⟩ => ⟨S1024x640, .bf16⟩
  | .local _ .vmem, ⟨3, _⟩ => ⟨S1024x640, .bf16⟩
  | .local _ .vmem, ⟨4, _⟩ => ⟨S1024x640, .bf16⟩
  | .local _ .vmem, ⟨5, _⟩ => ⟨S1024x640, .bf16⟩
  | .local _ .vmem, ⟨6, _⟩ => ⟨S768x1024, .bf16⟩
  | .local _ .vmem, ⟨7, _⟩ => ⟨S768x1024, .bf16⟩
  | .local _ .vmem, ⟨8, _⟩ => ⟨S640x1024, .bf16⟩
  | .local _ .vmem, ⟨9, _⟩ => ⟨S640x1024, .bf16⟩
  | .local _ .vmem, ⟨10, _⟩ => ⟨S640x1024, .bf16⟩
  | .local _ .vmem, ⟨11, _⟩ => ⟨S640x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | _, _ => ⟨S16384x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S768x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S640x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S640x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeRefIdeal.lean ====
abbrev S16384x768 : Shape := ⟨2, ![16384, 768]⟩
abbrev S16384x640 : Shape := ⟨2, ![16384, 640]⟩
abbrev S2048x2048 : Shape := ⟨2, ![2048, 2048]⟩
abbrev S16384x6144 : Shape := ⟨2, ![16384, 6144]⟩
abbrev S16384x3x2048 : Shape := ⟨3, ![16384, 3, 2048]⟩
abbrev S16384x1x2048 : Shape := ⟨3, ![16384, 1, 2048]⟩
abbrev S16384x2048 : Shape := ⟨2, ![16384, 2048]⟩
abbrev S768x2048 : Shape := ⟨2, ![768, 2048]⟩
abbrev S640x2048 : Shape := ⟨2, ![640, 2048]⟩

abbrev nBuf : Space → Nat
  | .hbm => 29
  | .vmem => 0
  | .smem => 0
  | _ => 0

abbrev bufTy : (tb : Table) → Fin (tcTables nBuf tb) → BufTy
  | .hbm, ⟨0, _⟩ => ⟨S16384x768, .bf16⟩
  | .hbm, ⟨1, _⟩ => ⟨S16384x640, .bf16⟩
  | .hbm, ⟨2, _⟩ => ⟨S16384x640, .bf16⟩
  | .hbm, ⟨3, _⟩ => ⟨S2048x2048, .bf16⟩
  | .hbm, ⟨4, _⟩ => ⟨S16384x6144, .bf16⟩
  | .hbm, ⟨5, _⟩ => ⟨S16384x768, .f32⟩
  | .hbm, ⟨6, _⟩ => ⟨S16384x640, .f32⟩
  | .hbm, ⟨7, _⟩ => ⟨S16384x640, .f32⟩
  | .hbm, ⟨8, _⟩ => ⟨S2048x2048, .f32⟩
  | .hbm, ⟨9, _⟩ => ⟨S16384x6144, .f32⟩
  | .hbm, ⟨10, _⟩ => ⟨S16384x3x2048, .f32⟩
  | .hbm, ⟨11, _⟩ => ⟨S16384x1x2048, .f32⟩
  | .hbm, ⟨12, _⟩ => ⟨S16384x2048, .f32⟩
  | .hbm, ⟨13, _⟩ => ⟨S768x2048, .f32⟩
  | .hbm, ⟨14, _⟩ => ⟨S16384x2048, .f32⟩
  | .hbm, ⟨15, _⟩ => ⟨S16384x2048, .f32⟩
  | .hbm, ⟨16, _⟩ => ⟨S16384x1x2048, .f32⟩
  | .hbm, ⟨17, _⟩ => ⟨S16384x2048, .f32⟩
  | .hbm, ⟨18, _⟩ => ⟨S640x2048, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S16384x1x2048, .f32⟩
  | .hbm, ⟨23, _⟩ => ⟨S16384x2048, .f32⟩
  | .hbm, ⟨24, _⟩ => ⟨S640x2048, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S16384x2048, .bf16⟩
  | _, _ => ⟨S16384x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩

abbrev nD : Nat := 1
abbrev τ : Topo := Topo.v7x

variable {F : FTy → Type} [FloatOps F]
-- ==== Out.lean ====
abbrev S16384x2048 : Shape := ⟨2, ![16384, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .bf16⟩
  | .hbm, ⟨2, _⟩ => ⟨S16384x2048, .f32⟩
  | .hbm, ⟨3, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutRefIdeal.lean ====
abbrev S16384x2048 : Shape := ⟨2, ![16384, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .bf16⟩
  | .hbm, ⟨2, _⟩ => ⟨S16384x2048, .f32⟩
  | .hbm, ⟨3, _⟩ => ⟨S16384x2048, .f32⟩
  | .hbm, ⟨4, _⟩ => ⟨S2048x2048, .f32⟩
  | .hbm, ⟨5, _⟩ => ⟨S16384x2048, .f32⟩
  | .hbm, ⟨6, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Up.lean ====
abbrev S16384x2048 : Shape := ⟨2, ![16384, 2048]⟩
abbrev S2048 : Shape := ⟨1, ![2048]⟩
abbrev S2048x5632 : Shape := ⟨2, ![2048, 5632]⟩
abbrev S1x2048 : Shape := ⟨2, ![1, 2048]⟩
abbrev S16384x5632 : Shape := ⟨2, ![16384, 5632]⟩
abbrev S1024x2048 : Shape := ⟨2, ![1024, 2048]⟩
abbrev S2048x512 : Shape := ⟨2, ![2048, 512]⟩
abbrev S1024x512 : Shape := ⟨2, ![1024, 512]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5632, .bf16⟩
  | .hbm, ⟨3, _⟩ => ⟨S2048x5632, .bf16⟩
  | .hbm, ⟨4, _⟩ => ⟨S1x2048, .f32⟩
  | .hbm, ⟨5, _⟩ => ⟨S16384x5632, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S1024x512, .bf16⟩
  | .local _ .vmem, ⟨8, _⟩ => ⟨S1024x512, .bf16⟩
  | .local _ .vmem, ⟨9, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_12 : BitVec 32 := 0#32
  let c4_i32 : BitVec 32 := 4#32
  let v19 : BitVec 32 := Scalar.addi c0_i32_12 c4_i32
  let c1_i32 : BitVec 32 := 1#32
  ⟨c0_i32_12, v19, c1_i32⟩
def k0_mult1 (k0_t1 : Fin k0_t1_loop.trips) : BitVec 32 :=
  let c0_i32_12 : BitVec 32 := 0#32
  let c1_i32 : BitVec 32 := 1#32
  let arg8 : BitVec 32 := Scf.iv c0_i32_12 c1_i32 k0_t1
  let c256_i32 : BitVec 32 := 256#32
  let v20 : BitVec 32 := Scalar.muli arg8 c256_i32
  v20
def k0_off1 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v20 : BitVec 32 := Scalar.muli arg8 c256_i32
  let v21 : BitVec 32 := v20
  let v22 : Index := Scalar.indexCast v21
  let c0_14 : Index := 0#32
  ![v22.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== UpRefIdeal.lean ====
abbrev S16384x2048 : Shape := ⟨2, ![16384, 2048]⟩
abbrev S2048 : Shape := ⟨1, ![2048]⟩
abbrev S2048x5632 : Shape := ⟨2, ![2048, 5632]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x5632 : Shape := ⟨2, ![16384, 5632]⟩

abbrev nBuf : Space → Nat
  | .hbm => 35
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5632, .bf16⟩
  | .hbm, ⟨3, _⟩ => ⟨S2048x5632, .bf16⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S2048x5632, .f32⟩
  | .hbm, ⟨21, _⟩ => ⟨S16384x5632, .f32⟩
  | .hbm, ⟨22, _⟩ => ⟨S16384x5632, .f32⟩
  | .hbm, ⟨23, _⟩ => ⟨S16384x5632, .f32⟩
  | .hbm, ⟨24, _⟩ => ⟨S_, .f32⟩
  | .hbm, ⟨25, _⟩ => ⟨S16384x5632, .f32⟩
  | .hbm, ⟨26, _⟩ => ⟨S16384x5632, .f32⟩
  | .hbm, ⟨27, _⟩ => ⟨S_, .f32⟩
  | .hbm, ⟨28, _⟩ => ⟨S16384x5632, .f32⟩
  | .hbm, ⟨29, _⟩ => ⟨S16384x5632, .f32⟩
  | .hbm, ⟨30, _⟩ => ⟨S16384x5632, .f32⟩
  | .hbm, ⟨31, _⟩ => ⟨S2048x5632, .f32⟩
  | .hbm, ⟨32, _⟩ => ⟨S16384x5632, .f32⟩
  | .hbm, ⟨33, _⟩ => ⟨S16384x5632, .f32⟩
  | .hbm, ⟨34, _⟩ => ⟨S16384x5632, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== Down.lean ====
abbrev S16384x5632 : Shape := ⟨2, ![16384, 5632]⟩
abbrev S5632x2048 : Shape := ⟨2, ![5632, 2048]⟩
abbrev S16384x2048 : Shape := ⟨2, ![16384, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S16384x5632, .bf16⟩
  | .hbm, ⟨1, _⟩ => ⟨S5632x2048, .bf16⟩
  | .hbm, ⟨2, _⟩ => ⟨S16384x2048, .f32⟩
  | .hbm, ⟨3, _⟩ => ⟨S16384x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownRefIdeal.lean ====
abbrev S16384x5632 : Shape := ⟨2, ![16384, 5632]⟩
abbrev S5632x2048 : Shape := ⟨2, ![5632, 2048]⟩
abbrev S16384x2048 : Shape := ⟨2, ![16384, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S5632x2048, .bf16⟩
  | .hbm, ⟨2, _⟩ => ⟨S16384x2048, .f32⟩
  | .hbm, ⟨3, _⟩ => ⟨S16384x5632, .f32⟩
  | .hbm, ⟨4, _⟩ => ⟨S5632x2048, .f32⟩
  | .hbm, ⟨5, _⟩ => ⟨S16384x2048, .f32⟩
  | .hbm, ⟨6, _⟩ => ⟨S16384x2048, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.RetBlock.lean ====
/- The retention kernel, one grid point at a time: what a point of four chunks stores is stated with the operations of ONE
   chunk of ONE head, and the state it leaves is that chunk's update taken four times. -/
module

public import proofs.«01_k».proof.Proof.Gen.RetIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.RetIdeal.RefValue

open Cert.RetIdeal Cert.RetIdeal.Gen Idealize.ShloMosaic Idealize.ShloMosaic.TcCoe Idealize.SL.Sem
open Idealize.ShloMosaic.Pipeline (Dat)

/-! ## The operations of one chunk of one head, on 128 × 128 blocks -/

/-- The rotary embedding of a chunk: `x · cos + roll x · sin`. -/
def rotV (x cos sin : Vec Ideal S128x128 .f32) : FVec Ideal S128x128 .f32 :=
  addf (mulf x (k0_pay10 cos)) (mulf (dynamicRotate 1 64#32 none x rotates_S128x128_d1) (k0_pay11 sin))

/-- The rotated and scaled keys of a chunk. -/
def keyV (x cos sin : Vec Ideal S128x128 .f32) : FVec Ideal S128x128 .f32 := k0_pay14 (rotV x cos sin)

/-- The state after a chunk. -/
def stepV (st key : FVec Ideal S128x128 .f32) (v : Vec Ideal S128x128 .f32) (z : Vec Ideal S1x128x128 .f32)
    (g : Vec Ideal S1x1x128 .f32) : FVec Ideal S128x128 .f32 :=
  k0_pay62 st (k0_pay52 (k0_pay25 v) (k0_pay43 key z)) g

/-- The retention of a chunk before its norm: the scores within the chunk and the state it begins with. -/
def innerV (q : FVec Ideal S128x128 .bf16) (key : FVec Ideal S128x128 .f32) (v : Vec Ideal S128x128 .f32) (dec : Vec Ideal S1x128x128 .f32) :
    FVec Ideal S128x128 .f32 :=
  k0_pay174 (k0_pay25 v) (k0_pay30 key q) dec

/-- What a chunk of a head writes: the normed retention times the gate's silu. -/
def chunkV (q : FVec Ideal S128x128 .bf16) (st inner : FVec Ideal S128x128 .f32) (xi : Vec Ideal S1x128x128 .f32)
    (gain : Vec Ideal S1x1x128 .f32) (gate : Vec Ideal S128x128 .f32) : FVec Ideal S128x128 .bf16 :=
  k0_pay192 (k0_pay190 (k0_pay35 st q) inner xi gain) gate
    (addf (mulf (broadcast S128x128 (Scalar.ofBits .f32 0x3F000000#32))
      (tanh (mulf (broadcast S128x128 (Scalar.ofBits .f32 0x3F000000#32)) gate))) (broadcast S128x128 (Scalar.ofBits .f32 0x3F000000#32)))

/-! ## The blocks of a point, cut into chunks and heads -/

theorem inb_wide (n : Fin 4) (h : Fin 5) : ∀ a : Fin 2, (![128 * n.val, 128 * h.val] : Fin 2 → ℕ) a + S128x128.size a ≤ S512x640.size a := by
  have := n.isLt; have := h.isLt
  intro a; fin_cases a
  · show 128 * n.val + 128 ≤ 512; omega
  · show 128 * h.val + 128 ≤ 640; omega

theorem inb_rows (n : Fin 4) : ∀ a : Fin 2, (![128 * n.val, 0] : Fin 2 → ℕ) a + S128x128.size a ≤ S512x128.size a := by
  have := n.isLt
  intro a; fin_cases a
  · show 128 * n.val + 128 ≤ 512; omega
  · show 0 + 128 ≤ 128; omega

theorem inb_head (h : Fin 5) : ∀ a : Fin 3, (![h.val, 0, 0] : Fin 3 → ℕ) a + S1x128x128.size a ≤ S5x128x128.size a := by
  have := h.isLt
  intro a; fin_cases a
  · show h.val + 1 ≤ 5; omega
  · show 0 + 128 ≤ 128; omega
  · show 0 + 128 ≤ 128; omega

theorem inb_row8 (h : Fin 5) : ∀ a : Fin 3, (![h.val, 0, 0] : Fin 3 → ℕ) a + S1x1x128.size a ≤ S5x8x128.size a := by
  have := h.isLt
  intro a; fin_cases a
  · show h.val + 1 ≤ 5; omega
  · show 0 + 1 ≤ 8; omega
  · show 0 + 128 ≤ 128; omega

theorem inb_row1 (h : Fin 5) : ∀ a : Fin 3, (![h.val, 0, 0] : Fin 3 → ℕ) a + S1x1x128.size a ≤ S5x1x128.size a := by
  have := h.isLt
  intro a; fin_cases a
  · show h.val + 1 ≤ 5; omega
  · show 0 + 1 ≤ 1; omega
  · show 0 + 128 ≤ 128; omega

abbrev cutW (X : Vec Ideal S512x640 .f32) (n : Fin 4) (h : Fin 5) : Vec Ideal S128x128 .f32 :=
  View.ld X (Rect.unit ![128 * n.val, 128 * h.val] S128x128.size (inb_wide n h))
abbrev cutR (X : Vec Ideal S512x128 .f32) (n : Fin 4) : Vec Ideal S128x128 .f32 :=
  View.ld X (Rect.unit ![128 * n.val, 0] S128x128.size (inb_rows n))
abbrev cutH (X : Vec Ideal S5x128x128 .f32) (h : Fin 5) : Vec Ideal S1x128x128 .f32 :=
  View.ld X (Rect.unit ![h.val, 0, 0] S1x128x128.size (inb_head h))
abbrev cut8 (X : Vec Ideal S5x8x128 .f32) (h : Fin 5) : Vec Ideal S1x1x128 .f32 :=
  View.ld X (Rect.unit ![h.val, 0, 0] S1x1x128.size (inb_row8 h))
abbrev cut1 (X : Vec Ideal S5x1x128 .f32) (h : Fin 5) : Vec Ideal S1x1x128 .f32 :=
  View.ld X (Rect.unit ![h.val, 0, 0] S1x1x128.size (inb_row1 h))

variable (m : (ℓ : Loc nD τ sig) → Buf (Elt Ideal) ℓ)

/-- The state of head `h` after `n` of the point's four chunks, from the scratch `S` it begins with. -/
def stP (c : Dev nD) (t : Fin cfg0.N) (S : Vec Ideal S5x128x128 .f32) (h : Fin 5) : (n : ℕ) → n ≤ 4 → FVec Ideal S128x128 .f32
  | 0, _ => k0_pay5 (cutH S h)
  | n + 1, hn => stepV (stP c t S h n (Nat.le_of_succ_le hn))
      (keyV (cutW (iblk m c 1 t) ⟨n, hn⟩ h) (cutR (iblk m c 4 t) ⟨n, hn⟩) (cutR (iblk m c 5 t) ⟨n, hn⟩))
      (cutW (iblk m c 2 t) ⟨n, hn⟩ h) (cutH (iblk m c 7 t) h) (cut8 (iblk m c 9 t) h)

/-- What the point writes for chunk `n` of head `h`. -/
def outP (c : Dev nD) (t : Fin cfg0.N) (S : Vec Ideal S5x128x128 .f32) (n : Fin 4) (h : Fin 5) : FVec Ideal S128x128 .bf16 :=
  chunkV (k0_pay18 (k0_pay10 (cutR (iblk m c 4 t) n)) (k0_pay11 (cutR (iblk m c 5 t) n)) (cutW (iblk m c 0 t) n h))
    (stP m c t S h n.val n.isLt.le)
    (innerV (k0_pay18 (k0_pay10 (cutR (iblk m c 4 t) n)) (k0_pay11 (cutR (iblk m c 5 t) n)) (cutW (iblk m c 0 t) n h))
      (keyV (cutW (iblk m c 1 t) n h) (cutR (iblk m c 4 t) n) (cutR (iblk m c 5 t) n)) (cutW (iblk m c 2 t) n h) (cutH (iblk m c 6 t) h))
    (cutH (iblk m c 8 t) h) (cut1 (iblk m c 10 t) h) (cutW (iblk m c 3 t) n h)

/-- The point's output block: chunk by rows, head by columns. -/
def outG (c : Dev nD) (t : Fin cfg0.N) (S : Vec Ideal S5x128x128 .f32) : Vec Ideal S512x640 .bf16 := fun y =>
  outP m c t S ⟨(y 0).val / 128, Nat.div_lt_of_lt_mul (y 0).isLt⟩ ⟨(y 1).val / 128, Nat.div_lt_of_lt_mul (y 1).isLt⟩
    (ix2 ⟨(y 0).val % 128, Nat.mod_lt _ (by decide)⟩ ⟨(y 1).val % 128, Nat.mod_lt _ (by decide)⟩)

/-- The scratch the point leaves: head by head. -/
def stG (c : Dev nD) (t : Fin cfg0.N) (S : Vec Ideal S5x128x128 .f32) : Vec Ideal S5x128x128 .f32 := fun y =>
  stP m c t S (y 0) 4 le_rfl (ix2 (y 1) (y 2))

theorem outG_at (c : Dev nD) (t : Fin cfg0.N) (S : Vec Ideal S5x128x128 .f32) (n : Fin 4) (h : Fin 5) (x : S128x128.Idx) :
    outP m c t S n h x = outG m c t S ((Rect.unit (s := S512x640) ![128 * n.val, 128 * h.val] S128x128.size (inb_wide n h)).emb x) := by
  have h0 : (x 0).val < 128 := (x 0).isLt
  have h1 : (x 1).val < 128 := (x 1).isLt
  have e0 : ((Rect.unit (s := S512x640) ![128 * n.val, 128 * h.val] S128x128.size (inb_wide n h)).emb x 0).val = 128 * n.val + (x 0).val := by
    simp [Rect.emb, Rect.unit]
  have e1 : ((Rect.unit (s := S512x640) ![128 * n.val, 128 * h.val] S128x128.size (inb_wide n h)).emb x 1).val = 128 * h.val + (x 1).val := by
    simp [Rect.emb, Rect.unit]
  have en : n = ⟨_ / 128, Nat.div_lt_of_lt_mul ((Rect.unit (s := S512x640) ![128 * n.val, 128 * h.val] S128x128.size (inb_wide n h)).emb x 0).isLt⟩ :=
    Fin.ext (by show n.val = _ / 128; rw [e0]; omega)
  have eh : h = ⟨_ / 128, Nat.div_lt_of_lt_mul ((Rect.unit (s := S512x640) ![128 * n.val, 128 * h.val] S128x128.size (inb_wide n h)).emb x 1).isLt⟩ :=
    Fin.ext (by show h.val = _ / 128; rw [e1]; omega)
  have ex : x = ix2 ⟨_ % 128, Nat.mod_lt ((Rect.unit (s := S512x640) ![128 * n.val, 128 * h.val] S128x128.size (inb_wide n h)).emb x 0).val (by decide)⟩
      ⟨_ % 128, Nat.mod_lt ((Rect.unit (s := S512x640) ![128 * n.val, 128 * h.val] S128x128.size (inb_wide n h)).emb x 1).val (by decide)⟩ := by
    funext a
    fin_cases a
    · exact Fin.ext (by show (x 0).val = _ % 128; rw [e0]; omega)
    · exact Fin.ext (by show (x 1).val = _ % 128; rw [e1]; omega)
  exact congr (congr (congrArg (outP m c t S) en) eh) ex

/-- The points after a batch's first: the output block … -/
theorem out_B (c : Dev nD) (t : Fin cfg0.N) (h : ¬ t.val % 8 = 0) : (outsAt0 m c t.val t.isLt).1
    = outG m c t (outsAt0 m c (t.val - 1) (Nat.lt_of_le_of_lt (Nat.sub_le _ _) t.isLt)).2 := by
  funext y
  rw [outsAt0_B m c t h]
  generalize (outsAt0 m c (t.val - 1) (Nat.lt_of_le_of_lt (Nat.sub_le _ _) t.isLt)).2 = S
  frame_out
  rw [read_unread_whole]
  rw [← List.append_nil (_ :: _)]
  refine View.canon_append_of_piecesOf (outG m c t S) [] _ ?_ y (View.cover_of_tiledL (s := S512x640) _ S128x128.size (by sl_kernel_rfl) y)
  exact ⟨outG_at m c t S 3 4, outG_at m c t S 3 3, outG_at m c t S 3 2, outG_at m c t S 3 1, outG_at m c t S 3 0,
    outG_at m c t S 2 4, outG_at m c t S 2 3, outG_at m c t S 2 2, outG_at m c t S 2 1, outG_at m c t S 2 0,
    outG_at m c t S 1 4, outG_at m c t S 1 3, outG_at m c t S 1 2, outG_at m c t S 1 1, outG_at m c t S 1 0,
    outG_at m c t S 0 4, outG_at m c t S 0 3, outG_at m c t S 0 2, outG_at m c t S 0 1, outG_at m c t S 0 0, trivial⟩

theorem stG_at (c : Dev nD) (t : Fin cfg0.N) (S : Vec Ideal S5x128x128 .f32) (h : Fin 5) (x : S1x128x128.Idx) :
    k0_pay1 (stP m c t S h 4 le_rfl) x
      = stG m c t S ((Rect.unit (s := S5x128x128) ![h.val, 0, 0] S1x128x128.size (inb_head h)).emb x) := by
  have h0 : (x 0).val < 1 := (x 0).isLt
  have e0 : ((Rect.unit (s := S5x128x128) ![h.val, 0, 0] S1x128x128.size (inb_head h)).emb x 0).val = h.val + (x 0).val := by
    simp [Rect.emb, Rect.unit]
  have e1 : ((Rect.unit (s := S5x128x128) ![h.val, 0, 0] S1x128x128.size (inb_head h)).emb x 1).val = (x 1).val := by
    simp [Rect.emb, Rect.unit]
  have e2 : ((Rect.unit (s := S5x128x128) ![h.val, 0, 0] S1x128x128.size (inb_head h)).emb x 2).val = (x 2).val := by
    simp [Rect.emb, Rect.unit]
  have eh : h = (Rect.unit (s := S5x128x128) ![h.val, 0, 0] S1x128x128.size (inb_head h)).emb x 0 := Fin.ext (by rw [e0]; omega)
  pointwise [k0_pay1]
  exact congr (congrArg (fun h' => stP m c t S h' 4 le_rfl) eh) (by
    funext a
    fin_cases a
    · exact Fin.ext e1.symm
    · exact Fin.ext e2.symm)

/-- … and the scratch. -/
theorem st_B (c : Dev nD) (t : Fin cfg0.N) (h : ¬ t.val % 8 = 0) : (outsAt0 m c t.val t.isLt).2
    = stG m c t (outsAt0 m c (t.val - 1) (Nat.lt_of_le_of_lt (Nat.sub_le _ _) t.isLt)).2 := by
  funext y
  rw [outsAt0_B m c t h]
  generalize (outsAt0 m c (t.val - 1) (Nat.lt_of_le_of_lt (Nat.sub_le _ _) t.isLt)).2 = S
  frame_out
  rw [read_unread_whole]
  rw [← List.append_nil (_ :: _)]
  refine View.canon_append_of_piecesOf (stG m c t S) [] _ ?_ y (View.cover_of_tiledL (s := S5x128x128) _ S1x128x128.size (by sl_kernel_rfl) y)
  exact ⟨stG_at m c t S 4, stG_at m c t S 3, stG_at m c t S 2, stG_at m c t S 1, stG_at m c t S 0, trivial⟩

theorem zeros3 : ∀ a : Fin 3, (![0, 0, 0] : Fin 3 → ℕ) a = 0 := by decide

/-- A batch's first point begins with the state it has just cleared: the output block … -/
theorem out_A (c : Dev nD) (t : Fin cfg0.N) (h : t.val % 8 = 0) : (outsAt0 m c t.val t.isLt).1 = outG m c t (k0_pay4 (F := Ideal)) := by
  funext y
  rw [outsAt0_A m c t h]
  frame_out
  simp only [↓View.readCov_fill (s := S5x128x128) _ _ _ _ _ zeros3]
  rw [← List.append_nil (_ :: _)]
  refine View.canon_append_of_piecesOf (outG m c t (k0_pay4 (F := Ideal))) [] _ ?_ y (View.cover_of_tiledL (s := S512x640) _ S128x128.size (by sl_kernel_rfl) y)
  exact ⟨outG_at m c t _ 3 4, outG_at m c t _ 3 3, outG_at m c t _ 3 2, outG_at m c t _ 3 1, outG_at m c t _ 3 0,
    outG_at m c t _ 2 4, outG_at m c t _ 2 3, outG_at m c t _ 2 2, outG_at m c t _ 2 1, outG_at m c t _ 2 0,
    outG_at m c t _ 1 4, outG_at m c t _ 1 3, outG_at m c t _ 1 2, outG_at m c t _ 1 1, outG_at m c t _ 1 0,
    outG_at m c t _ 0 4, outG_at m c t _ 0 3, outG_at m c t _ 0 2, outG_at m c t _ 0 1, outG_at m c t _ 0 0, trivial⟩

/-- … and the scratch. -/
theorem st_A (c : Dev nD) (t : Fin cfg0.N) (h : t.val % 8 = 0) : (outsAt0 m c t.val t.isLt).2 = stG m c t (k0_pay4 (F := Ideal)) := by
  funext y
  rw [outsAt0_A m c t h]
  frame_out
  simp only [↓View.readCov_fill (s := S5x128x128) _ _ _ _ _ zeros3]
  refine View.canon_append_of_piecesOf (stG m c t (k0_pay4 (F := Ideal))) [_] [_, _, _, _, _] ?_ y
    (View.cover_of_tiledL (s := S5x128x128) _ S1x128x128.size (by sl_kernel_rfl) y)
  exact ⟨stG_at m c t _ 4, stG_at m c t _ 3, stG_at m c t _ 2, stG_at m c t _ 1, stG_at m c t _ 0, trivial⟩

end Cert.RetIdeal.RefValue
-- ==== Proof.RetTables.lean ====
/- The blocks the retention kernel reads, cut into chunks and heads, as entries of its arguments and of the reference's tables. -/
module

public import proofs.«01_k».proof.Proof.RetBlock
public import proofs.«01_k».proof.Proof.Gen.RetRefIdeal.Read

@[expose] public section

set_option maxRecDepth 16384

noncomputable section

namespace Cert.RetIdeal.RefValue

open Cert.RetIdeal Cert.RetIdeal.Gen Idealize.ShloMosaic Idealize.ShloMosaic.TcCoe Idealize.SL.Sem
open Cert.RetRefIdeal.Read

variable (m : (ℓ : Loc nD τ sig) → Buf (Elt Ideal) ℓ)

/-- Which block each window shows at a grid point: a batch is eight points. -/
theorem idx : ∀ t : Fin cfg0.N, win0_0.index t = ![t.val, 8] ∧ win0_1.index t = ![t.val, 9] ∧ win0_2.index t = ![t.val, 10]
    ∧ win0_3.index t = ![t.val, 11] ∧ win0_4.index t = ![t.val % 8, 0] ∧ win0_5.index t = ![t.val % 8, 0]
    ∧ win0_6.index t = ![0, 0, 0] ∧ win0_7.index t = ![0, 0, 0] ∧ win0_8.index t = ![0, 0, 0] ∧ win0_9.index t = ![0, 0, 0]
    ∧ win0_10.index t = ![0, 0, 0] ∧ win0_11.index t = ![t.val, 0] :=
  (by decide +kernel : ∀ t : Fin grid0.N, _)

theorem lt32 (t : Fin cfg0.N) : t.val < 32 := t.isLt

/-- A table of one number per head and position, repeated along the lanes. -/
theorem lanes (X : S5x128.Idx → EReal) (h : Fin 5) (r d : Fin 128) :
    (broadcastInDim (s := S5x128x1) S5x128x128 ![0, 1, 2] bcast_S5x128x1_S5x128x128_0_1_2 (broadcastInDim S5x128x1 ![0, 1] bcast_S5x128_S5x128x1_0_1 X)
      : S5x128x128.Idx → EReal) (ix3 h r d) = X (ix2 h r) := by
  pointwise []

/-- A table of one number per head, repeated along eight rows and the lanes. -/
theorem rows (X : S5.Idx → EReal) (h : Fin 5) (r : Fin 8) (d : Fin 128) :
    (broadcastInDim (s := S5x1x1) S5x8x128 ![0, 1, 2] bcast_S5x1x1_S5x8x128_0_1_2 (broadcastInDim S5x1x1 ![0] bcast_S5_S5x1x1_0 X)
      : S5x8x128.Idx → EReal) (ix3 h r d) = X (ix1 h) := by
  pointwise []

/-- The gains, cut into heads. -/
theorem heads (X : S640.Idx → EReal) (h : Fin 5) (d : Fin 128) :
    (shapeCast S5x1x128 X shapeCasts_S640_S5x1x128 : S5x1x128.Idx → EReal) (ix3 h 0 d)
      = X (ix1 ⟨h.val * 128 + d.val, by omega⟩) := by
  pointwise []

/-- How much of an update is left at the end of its chunk. -/
theorem tab7 (c : Dev nD) (h : Fin 5) (r d : Fin 128) : V m c main_v69 (ix3 h r d) = val_main_v101 (F := Ideal) (ix2 h r) := by
  simp only [V, hostOps0, hostOps0_1, hostOps0_2, hostOps0_3, hostOps0_4, hostOps0_5, hostOps0_6, hostOps0_7, hostOps0_8, List.flatten_cons, List.flatten_nil, List.append_nil, List.cons_append, List.nil_append]
  simp only [Idealize.ShloMosaic.StableHlo.after_cons, Idealize.ShloMosaic.StableHlo.after_nil]
  after_results_simp
  exact (lanes _ h r d).trans rfl

/-- How much of the state before a chunk is left at a row of it. -/
theorem tab8 (c : Dev nD) (h : Fin 5) (r d : Fin 128) : V m c main_v71 (ix3 h r d) = val_main_v312 (F := Ideal) (ix2 h r) := by
  simp only [V, hostOps0, hostOps0_1, hostOps0_2, hostOps0_3, hostOps0_4, hostOps0_5, hostOps0_6, hostOps0_7, hostOps0_8, List.flatten_cons, List.flatten_nil, List.append_nil, List.cons_append, List.nil_append]
  simp only [Idealize.ShloMosaic.StableHlo.after_cons, Idealize.ShloMosaic.StableHlo.after_nil]
  after_results_simp
  exact (lanes _ h r d).trans rfl

/-- How much of the state is left after a chunk. -/
theorem tab9 (c : Dev nD) (h : Fin 5) (r : Fin 8) (d : Fin 128) : V m c main_v67 (ix3 h r d) = val_main_v108 (F := Ideal) (ix1 h) := by
  simp only [V, hostOps0, hostOps0_1, hostOps0_2, hostOps0_3, hostOps0_4, hostOps0_5, hostOps0_6, hostOps0_7, hostOps0_8, List.flatten_cons, List.flatten_nil, List.append_nil, List.cons_append, List.nil_append]
  simp only [Idealize.ShloMosaic.StableHlo.after_cons, Idealize.ShloMosaic.StableHlo.after_nil]
  after_results_simp
  exact (rows _ h r d).trans rfl

/-- The gains of a head. -/
theorem tab10 (c : Dev nD) (h : Fin 5) (d : Fin 128) : V m c main_v72 (ix3 h 0 d)
    = m ((c : Thread nD τ).loc main_arg1) (ix1 ⟨h.val * 128 + d.val, by omega⟩) := by
  simp only [V, hostOps0, hostOps0_1, hostOps0_2, hostOps0_3, hostOps0_4, hostOps0_5, hostOps0_6, hostOps0_7, hostOps0_8, List.flatten_cons, List.flatten_nil, List.append_nil, List.cons_append, List.nil_append]
  simp only [Idealize.ShloMosaic.StableHlo.after_cons, Idealize.ShloMosaic.StableHlo.after_nil]
  after_results_simp
  exact heads _ h d

/-- The decay of the scores of a chunk. -/
theorem tab6 (c : Dev nD) : V m c main_v48 = val_main_v89 (F := Ideal) := by
  simp only [V, hostOps0, hostOps0_1, hostOps0_2, hostOps0_3, hostOps0_4, hostOps0_5, hostOps0_6, hostOps0_7, hostOps0_8, List.flatten_cons, List.flatten_nil, List.append_nil, List.cons_append, List.nil_append]
  simp only [Idealize.ShloMosaic.StableHlo.after_cons, Idealize.ShloMosaic.StableHlo.after_nil]
  after_results_simp
  rfl

theorem v51_eq : val_main_v51 (F := Ideal) = val_main_v27 (F := Ideal) := by
  rfl

theorem v52_eq : val_main_v52 (F := Ideal) = val_main_v28 (F := Ideal) := by
  rfl

/-- A table padded by nothing. -/
theorem pad_none (X : S4096x128.Idx → EReal) (Y : S4096x0.Idx → EReal) (r : Fin 4096) (d : Fin 128) :
    concatenate S4096x128 1 [⟨S4096x128, X⟩, ⟨S4096x0, Y⟩] concatenates_S4096x128_S4096x0_S4096x128_d1 (ix2 r d) = X (ix2 r d) := by
  exact concatenate_pair_apply_left (t := S4096x128) (s₁ := S4096x128) (s₂ := S4096x0) 1 X Y _ _ rfl (ix2 r d) (fun a => by fin_cases a <;> rfl)

/-- Two constants, one on the first half of the lanes and one on the second. -/
theorem halves (x y : EReal) (X Y : S64.Idx → EReal) (hX : ∀ i, X i = x) (hY : ∀ i, Y i = y) (d : Fin 128) :
    concatenate S128 0 [⟨S64, X⟩, ⟨S64, Y⟩] concatenates_S64_S64_S128_d0 (ix1 d) = if d.val < 64 then x else y := by
  by_cases hd : d.val < 64
  · rw [if_pos hd, ← hX (ix1 ⟨d.val, hd⟩)]
    exact concatenate_pair_apply_left (t := S128) (s₁ := S64) (s₂ := S64) 0 X Y _ _ rfl (ix1 ⟨d.val, hd⟩) (fun a => by fin_cases a; rfl)
  · rw [if_neg hd, ← hY (ix1 ⟨d.val - 64, by omega⟩)]
    refine concatenate_pair_apply_right (t := S128) (s₁ := S64) (s₂ := S64) 0 X Y _ _ rfl rfl (ix1 ⟨d.val - 64, by omega⟩) (fun a ha => ?_) ?_
    · fin_cases a; exact absurd rfl ha
    · show d.val - 64 + 64 = d.val; omega

/-- A row of lanes, repeated. -/
theorem down (X : S128.Idx → EReal) (r : Fin 4096) (d : Fin 128) :
    (broadcastInDim (s := S1x128) S4096x128 ![0, 1] bcast_S1x128_S4096x128_0_1 (broadcastInDim S1x128 ![1] bcast_S128_S1x128_1 X)
      : S4096x128.Idx → EReal) (ix2 r d) = X (ix1 d) := by
  pointwise []

/-- The cosines. -/
theorem tab4 (c : Dev nD) (r : Fin 4096) (d : Fin 128) : V m c main_v18 (ix2 r d) = val_main_v27 (F := Ideal) (ix2 r d) := by
  simp only [V, hostOps0, hostOps0_1, hostOps0_2, hostOps0_3, hostOps0_4, hostOps0_5, hostOps0_6, hostOps0_7, hostOps0_8, List.flatten_cons, List.flatten_nil, List.append_nil, List.cons_append, List.nil_append]
  simp only [Idealize.ShloMosaic.StableHlo.after_cons, Idealize.ShloMosaic.StableHlo.after_nil]
  after_results_simp
  exact (pad_none _ _ r d).trans rfl

/-- The sines, with the sign of the rotation: minus on the first half of the lanes. -/
theorem tab5 (c : Dev nD) (r : Fin 4096) (d : Fin 128) : V m c main_v23 (ix2 r d) = val_main_v28 (F := Ideal) (ix2 r d)
    * (if d.val < 64 then -(Ideal.ofBits FTy.f32 0x3F800000#32 : EReal) else Ideal.ofBits FTy.f32 0x3F800000#32) := by
  simp only [V, hostOps0, hostOps0_1, hostOps0_2, hostOps0_3, hostOps0_4, hostOps0_5, hostOps0_6, hostOps0_7, hostOps0_8, List.flatten_cons, List.flatten_nil, List.append_nil, List.cons_append, List.nil_append]
  simp only [Idealize.ShloMosaic.StableHlo.after_cons, Idealize.ShloMosaic.StableHlo.after_nil]
  after_results_simp
  refine (pad_none _ _ r d).trans (congrArg₂ (HMul.hMul : EReal → EReal → EReal) rfl ?_)
  refine (down _ r d).trans (halves _ _ _ _ (fun _ => rfl) (fun _ => rfl) d)

/-- The queries block. -/
theorem blk0 (c : Dev nD) (t : Fin cfg0.N) (r : Fin 512) (x : Fin 640) : iblk m c 0 t (ix2 r x)
    = m ((c : Thread nD τ).loc main_arg0) (ix2 ⟨t.val * 512 + r.val, by have := lt32 t; omega⟩ ⟨5120 + x.val, by omega⟩) := by
  have ht := lt32 t
  have hi := (idx t).1
  unfold iblk
  blk_simp
  rw [V_main_arg0]
  refine congrArg _ ?_
  blk_ext [hi]

/-- The keys block. -/
theorem blk1 (c : Dev nD) (t : Fin cfg0.N) (r : Fin 512) (x : Fin 640) : iblk m c 1 t (ix2 r x)
    = m ((c : Thread nD τ).loc main_arg0) (ix2 ⟨t.val * 512 + r.val, by have := lt32 t; omega⟩ ⟨5760 + x.val, by omega⟩) := by
  have ht := lt32 t
  have hi := (idx t).2.1
  unfold iblk
  blk_simp
  rw [V_main_arg0]
  refine congrArg _ ?_
  blk_ext [hi]

/-- The values block. -/
theorem blk2 (c : Dev nD) (t : Fin cfg0.N) (r : Fin 512) (x : Fin 640) : iblk m c 2 t (ix2 r x)
    = m ((c : Thread nD τ).loc main_arg0) (ix2 ⟨t.val * 512 + r.val, by have := lt32 t; omega⟩ ⟨6400 + x.val, by omega⟩) := by
  have ht := lt32 t
  have hi := (idx t).2.2.1
  unfold iblk
  blk_simp
  rw [V_main_arg0]
  refine congrArg _ ?_
  blk_ext [hi]

/-- The gates block. -/
theorem blk3 (c : Dev nD) (t : Fin cfg0.N) (r : Fin 512) (x : Fin 640) : iblk m c 3 t (ix2 r x)
    = m ((c : Thread nD τ).loc main_arg0) (ix2 ⟨t.val * 512 + r.val, by have := lt32 t; omega⟩ ⟨7040 + x.val, by omega⟩) := by
  have ht := lt32 t
  have hi := (idx t).2.2.2.1
  unfold iblk
  blk_simp
  rw [V_main_arg0]
  refine congrArg _ ?_
  blk_ext [hi]

theorem blk4 (c : Dev nD) (t : Fin cfg0.N) (r : Fin 512) (d : Fin 128) : iblk m c 4 t (ix2 r d)
    = V m c main_v18 (ix2 ⟨t.val % 8 * 512 + r.val, by omega⟩ d) := by
  have ht := lt32 t
  have hi := (idx t).2.2.2.2.1
  unfold iblk
  generalize V m c = v
  blk_simp
  refine congrArg _ ?_
  blk_ext [hi]

theorem blk5 (c : Dev nD) (t : Fin cfg0.N) (r : Fin 512) (d : Fin 128) : iblk m c 5 t (ix2 r d)
    = V m c main_v23 (ix2 ⟨t.val % 8 * 512 + r.val, by omega⟩ d) := by
  have ht := lt32 t
  have hi := (idx t).2.2.2.2.2.1
  unfold iblk
  generalize V m c = v
  blk_simp
  refine congrArg _ ?_
  blk_ext [hi]

theorem blk6 (c : Dev nD) (t : Fin cfg0.N) (h : Fin 5) (r : Fin 128) (d : Fin 128) : iblk m c 6 t (ix3 h r d) = V m c main_v48 (ix3 h r d) := by
  have hi := (idx t).2.2.2.2.2.2.1
  unfold iblk
  generalize V m c = v
  blk_simp
  refine congrArg _ ?_
  blk_ext [hi]

theorem blk7 (c : Dev nD) (t : Fin cfg0.N) (h : Fin 5) (r : Fin 128) (d : Fin 128) : iblk m c 7 t (ix3 h r d) = V m c main_v69 (ix3 h r d) := by
  have hi := (idx t).2.2.2.2.2.2.2.1
  unfold iblk
  generalize V m c = v
  blk_simp
  refine congrArg _ ?_
  blk_ext [hi]

theorem blk8 (c : Dev nD) (t : Fin cfg0.N) (h : Fin 5) (r : Fin 128) (d : Fin 128) : iblk m c 8 t (ix3 h r d) = V m c main_v71 (ix3 h r d) := by
  have hi := (idx t).2.2.2.2.2.2.2.2.1
  unfold iblk
  generalize V m c = v
  blk_simp
  refine congrArg _ ?_
  blk_ext [hi]

theorem blk9 (c : Dev nD) (t : Fin cfg0.N) (h : Fin 5) (r : Fin 8) (d : Fin 128) : iblk m c 9 t (ix3 h r d) = V m c main_v67 (ix3 h r d) := by
  have hi := (idx t).2.2.2.2.2.2.2.2.2.1
  unfold iblk
  generalize V m c = v
  blk_simp
  refine congrArg _ ?_
  blk_ext [hi]

theorem blk10 (c : Dev nD) (t : Fin cfg0.N) (h : Fin 5) (r : Fin 1) (d : Fin 128) : iblk m c 10 t (ix3 h r d) = V m c main_v72 (ix3 h r d) := by
  have hi := (idx t).2.2.2.2.2.2.2.2.2.2.1
  unfold iblk
  generalize V m c = v
  blk_simp
  refine congrArg _ ?_
  blk_ext [hi]

theorem cutW_at (X : Vec Ideal S512x640 .f32) (n : Fin 4) (h : Fin 5) (a d : Fin 128) :
    cutW X n h (ix2 a d) = X (ix2 ⟨n.val * 128 + a.val, by omega⟩ ⟨h.val * 128 + d.val, by omega⟩) := by
  show X ((Rect.unit (s := S512x640) ![128 * n.val, 128 * h.val] S128x128.size (inb_wide n h)).emb (ix2 a d)) = _
  refine congrArg _ ?_
  blk_ext

theorem cutR_at (X : Vec Ideal S512x128 .f32) (n : Fin 4) (a d : Fin 128) :
    cutR X n (ix2 a d) = X (ix2 ⟨n.val * 128 + a.val, by omega⟩ d) := by
  show X ((Rect.unit (s := S512x128) ![128 * n.val, 0] S128x128.size (inb_rows n)).emb (ix2 a d)) = _
  refine congrArg _ ?_
  blk_ext

theorem cutH_at (X : Vec Ideal S5x128x128 .f32) (h : Fin 5) (a d : Fin 128) : cutH X h (ix3 0 a d) = X (ix3 h a d) := by
  show X ((Rect.unit (s := S5x128x128) ![h.val, 0, 0] S1x128x128.size (inb_head h)).emb (ix3 0 a d)) = _
  refine congrArg _ ?_
  blk_ext

theorem cut8_at (X : Vec Ideal S5x8x128 .f32) (h : Fin 5) (d : Fin 128) : cut8 X h (ix3 0 0 d) = X (ix3 h 0 d) := by
  show X ((Rect.unit (s := S5x8x128) ![h.val, 0, 0] S1x1x128.size (inb_row8 h)).emb (ix3 0 0 d)) = _
  refine congrArg _ ?_
  blk_ext

theorem cut1_at (X : Vec Ideal S5x1x128 .f32) (h : Fin 5) (d : Fin 128) : cut1 X h (ix3 0 0 d) = X (ix3 h 0 d) := by
  show X ((Rect.unit (s := S5x1x128) ![h.val, 0, 0] S1x1x128.size (inb_row1 h)).emb (ix3 0 0 d)) = _
  refine congrArg _ ?_
  blk_ext

end Cert.RetIdeal.RefValue
-- ==== Proof.Silu.lean ====
/- The gate's silu, two ways: through `tanh`, as the kernels compute it, and through the exponential, as `jax.nn.silu` does. -/
module

public import Idealize.ShloMosaic.Lib.Pointwise
public import Idealize.ShloMosaic.Lib.IdealHost
public import Mathlib.Analysis.SpecialFunctions.Trigonometric.Basic

@[expose] public section

namespace Cert.Silu

open Idealize.ShloMosaic

/-- The word of the constant one half. -/
theorem half : Ideal.ofBits .f32 0x3F000000#32 = ((1 / 2 : ℝ) : EReal) := by
  simp [Ideal.ofBits, Ideal.ieee, -EReal.coe_mul]; norm_num

theorem real (r : ℝ) : 1 / 2 * Real.tanh (1 / 2 * r) + 1 / 2 = (1 + Real.exp (-r))⁻¹ := by
  have h1 : (0 : ℝ) < Real.exp (1 / 2 * r) := Real.exp_pos _
  have e : Real.exp (-r) = Real.exp (-(1 / 2 * r)) * Real.exp (-(1 / 2 * r)) := by rw [← Real.exp_add]; congr 1; ring
  have e' : Real.exp (-(1 / 2 * r)) = (Real.exp (1 / 2 * r))⁻¹ := Real.exp_neg _
  rw [Real.tanh_eq_sinh_div_cosh, Real.sinh_eq, Real.cosh_eq, e, e']
  field_simp
  ring

/-- The two gates agree at every extended real. -/
theorem tanh_gate (x : EReal) :
    Ideal.ofBits .f32 0x3F000000#32 * Ideal.tanh (Ideal.ofBits .f32 0x3F000000#32 * x) + Ideal.ofBits .f32 0x3F000000#32
      = Ideal.logistic x := by
  rw [half]
  induction x using EReal.rec with
  | bot =>
    rw [EReal.coe_mul_bot_of_pos (by norm_num), Ideal.tanh_bot, Ideal.logistic_bot, ← EReal.coe_one, ← EReal.coe_neg, ← EReal.coe_mul, ← EReal.coe_add]
    norm_num
  | top =>
    rw [EReal.coe_mul_top_of_pos (by norm_num), Ideal.tanh_top, Ideal.logistic_top, ← EReal.coe_one, ← EReal.coe_mul, ← EReal.coe_add]
    norm_num
  | coe r =>
    rw [← EReal.coe_mul, Ideal.tanh_coe, Ideal.logistic_coe, ← EReal.coe_mul, ← EReal.coe_add, real]

end Cert.Silu
-- ==== Proof.RetChunk.lean ====
/- The retention kernel's operations of one chunk of one head, read at an index. -/
module

public import proofs.«01_k».proof.Proof.RetBlock
public import proofs.«01_k».proof.Proof.Silu

@[expose] public section

set_option maxRecDepth 16384

noncomputable section

namespace Cert.RetIdeal.RefValue

open Cert.RetIdeal Cert.RetIdeal.Gen Idealize.ShloMosaic Idealize.ShloMosaic.TcCoe Idealize.SL.Sem

/-- The lane half a row away. -/
abbrev turn (d : Fin 128) : Fin 128 := ⟨(d.val + 64) % 128, Nat.mod_lt _ (by decide)⟩

theorem turn_eq (d : Fin 128) (h) : (⟨(d.val + 128 - 64) % 128, h⟩ : Fin 128) = turn d :=
  Fin.ext (by show (d.val + 128 - 64) % 128 = (d.val + 64) % 128; congr 1)

theorem rotV_at (x cos sin : Vec Ideal S128x128 .f32) (a d : Fin 128) : rotV x cos sin (ix2 a d)
    = (x (ix2 a d) * cos (ix2 a d) + x (ix2 a (turn d)) * sin (ix2 a d) : EReal) := by
  rw [← turn_eq d (Nat.mod_lt _ (by decide))]
  pointwise [rotV, k0_pay10, k0_pay11]

theorem keyV_at (x cos sin : Vec Ideal S128x128 .f32) (a d : Fin 128) : keyV x cos sin (ix2 a d)
    = ((x (ix2 a d) * cos (ix2 a d) + x (ix2 a (turn d)) * sin (ix2 a d)) * Ideal.ofBits FTy.f32 1035273459#32 : EReal) := by
  rw [← rotV_at x cos sin a d]
  unfold keyV
  pointwise [k0_pay14]

theorem queryV_at (x cos sin : Vec Ideal S128x128 .f32) (a d : Fin 128) : k0_pay18 (k0_pay10 cos) (k0_pay11 sin) x (ix2 a d)
    = (x (ix2 a d) * cos (ix2 a d) + x (ix2 a (turn d)) * sin (ix2 a d) : EReal) := by
  rw [← turn_eq d (Nat.mod_lt _ (by decide))]
  pointwise [k0_pay18, k0_pay10, k0_pay11]

theorem stepV_at (st key : FVec Ideal S128x128 .f32) (v : Vec Ideal S128x128 .f32) (z : Vec Ideal S1x128x128 .f32)
    (g : Vec Ideal S1x1x128 .f32) (d e : Fin 128) : stepV st key v z g (ix2 d e)
    = (st (ix2 d e) * g (ix3 0 0 e) + ∑ x : Fin 128, key (ix2 x d) * z (ix3 0 x d) * v (ix2 x e) : EReal) := by
  pointwise [stepV, k0_pay62, k0_pay52, k0_pay25, k0_pay43]

theorem innerV_at (q : FVec Ideal S128x128 .bf16) (key : FVec Ideal S128x128 .f32) (v : Vec Ideal S128x128 .f32) (dec : Vec Ideal S1x128x128 .f32)
    (a e : Fin 128) : innerV q key v dec (ix2 a e)
    = (∑ x : Fin 128, (∑ y : Fin 128, q (ix2 a y) * key (ix2 x y)) * dec (ix3 0 a x) * v (ix2 x e) : EReal) := by
  pointwise [innerV, k0_pay174, k0_pay25, k0_pay30]

/-- The retention of a chunk. -/
def sumV (q : FVec Ideal S128x128 .bf16) (st inner : FVec Ideal S128x128 .f32) (xi : Vec Ideal S1x128x128 .f32) (a e : Fin 128) : EReal :=
  inner (ix2 a e) + (∑ x : Fin 128, q (ix2 a x) * st (ix2 x e)) * xi (ix3 0 a e)

theorem chunkV_at (q : FVec Ideal S128x128 .bf16) (st inner : FVec Ideal S128x128 .f32) (xi : Vec Ideal S1x128x128 .f32)
    (gain : Vec Ideal S1x1x128 .f32) (gate : Vec Ideal S128x128 .f32) (a e : Fin 128) : chunkV q st inner xi gain gate (ix2 a e)
    = (sumV q st inner xi a e * Ideal.rsqrt (Ideal.div (∑ x : Fin 128, sumV q st inner xi a x * sumV q st inner xi a x)
        (Ideal.ofBits FTy.f32 1124073472#32) + Ideal.ofBits FTy.f32 897988541#32) * gain (ix3 0 0 e)
      * (gate (ix2 a e) * Ideal.logistic (gate (ix2 a e))) : EReal) := by
  rw [← Cert.Silu.tanh_gate (gate (ix2 a e))]
  unfold sumV
  pointwise [chunkV, k0_pay192, k0_pay190, k0_pay35]

end Cert.RetIdeal.RefValue
-- ==== Proof.RetRead.lean ====
/- The retention reference read at an index: the chunked values as sums over the chunk, and the scanned state as a recursion
   over the chunks. -/
module

public import proofs.«01_k».proof.Proof.Gen.RetRefIdeal.Read
public import Idealize.ShloMosaic.Lib.Pipeline.ValueKit
public import Idealize.ShloMosaic.Lib.Pointwise

@[expose] public section

set_option maxRecDepth 16384

noncomputable section

namespace Cert.RetRefIdeal.Reading

open Cert.RetRefIdeal Cert.RetRefIdeal.Gen Idealize.ShloMosaic Idealize.ShloMosaic.TcCoe Idealize.SL.Sem
open Cert.RetRefIdeal.Read

variable (A : (⟨S16384x7680, .f32⟩ : BufTy).Contents (Elt Ideal)) (g : (⟨S640, .f32⟩ : BufTy).Contents (Elt Ideal))

theorem ext4 {a b c d : ℕ} {i j : (⟨4, ![a, b, c, d]⟩ : Shape).Idx} (h0 : (i 0).val = (j 0).val) (h1 : (i 1).val = (j 1).val)
    (h2 : (i 2).val = (j 2).val) (h3 : (i 3).val = (j 3).val) : i = j := by
  funext x; fin_cases x
  · exact Fin.ext h0
  · exact Fin.ext h1
  · exact Fin.ext h2
  · exact Fin.ext h3

theorem ext5 {a b c d e : ℕ} {i j : (⟨5, ![a, b, c, d, e]⟩ : Shape).Idx} (h0 : (i 0).val = (j 0).val) (h1 : (i 1).val = (j 1).val)
    (h2 : (i 2).val = (j 2).val) (h3 : (i 3).val = (j 3).val) (h4 : (i 4).val = (j 4).val) : i = j := by
  funext x; fin_cases x
  · exact Fin.ext h0
  · exact Fin.ext h1
  · exact Fin.ext h2
  · exact Fin.ext h3
  · exact Fin.ext h4

/-- The update of a chunk's state: keys times values over the chunk. -/
theorem at105 (b : Fin 4) (h : Fin 5) (n : Fin 32) (d e : Fin 128) : val_main_v105 (F := Ideal) A (ix5 b h n d e)
    = ∑ s : Fin 128, (val_main_v71 (F := Ideal) A (ix5 b h n s d) * val_main_v101 (F := Ideal) (ix2 h s)) * val_main_v72 (F := Ideal) A (ix5 b h n s e) := by
  rw [val_main_v105_apply]
  refine Finset.sum_congr rfl fun s _ => ?_
  rw [show lidx_main_v105 (ix5 b h n d e) s = ix5 b h n s d from ext5 rfl rfl rfl rfl rfl,
    show ridx_main_v105 (ix5 b h n d e) s = ix5 b h n s e from ext5 rfl rfl rfl rfl rfl]
  rw [val_main_v104_apply]
  pointwise [val_main_v103, val_main_v102]

/-- The scores of a chunk, decayed. -/
theorem at93 (b : Fin 4) (h : Fin 5) (n : Fin 32) (c s : Fin 128) : val_main_v93 (F := Ideal) A (ix5 b h n c s)
    = (∑ d : Fin 128, val_main_v70 (F := Ideal) A (ix5 b h n c d) * val_main_v71 (F := Ideal) A (ix5 b h n s d))
      * val_main_v89 (F := Ideal) (ix3 h c s) := by
  rw [val_main_v93_apply, val_main_v90_apply]
  refine congrArg₂ (HMul.hMul : EReal → EReal → EReal) (Finset.sum_congr rfl fun d _ => ?_) ?_
  · rw [show lidx_main_v90 (ix5 b h n c s) d = ix5 b h n c d from ext5 rfl rfl rfl rfl rfl,
      show ridx_main_v90 (ix5 b h n c s) d = ix5 b h n s d from ext5 rfl rfl rfl rfl rfl]
  · pointwise [val_main_v92, val_main_v91]

/-- The retention of a chunk: the decayed scores times the values, and the queries times the state before the chunk. -/
theorem at317 (b : Fin 4) (h : Fin 5) (n : Fin 32) (c e : Fin 128) : val_main_v317 (F := Ideal) A (ix5 b h n c e)
    = (∑ s : Fin 128, val_main_v93 (F := Ideal) A (ix5 b h n c s) * val_main_v72 (F := Ideal) A (ix5 b h n s e))
      + (∑ d : Fin 128, val_main_v70 (F := Ideal) A (ix5 b h n c d) * val_main_v305 (F := Ideal) A (ix5 b h n d e))
        * val_main_v312 (F := Ideal) (ix2 h c) := by
  rw [val_main_v317_apply, val_main_v316_apply, val_main_v94_apply, val_main_v313_apply]
  refine congrArg₂ (HAdd.hAdd : EReal → EReal → EReal) (Finset.sum_congr rfl fun d _ => ?_)
    (congrArg₂ (HMul.hMul : EReal → EReal → EReal) (Finset.sum_congr rfl fun d _ => ?_) ?_)
  · rw [show lidx_main_v94 (ix5 b h n c e) d = ix5 b h n c d from ext5 rfl rfl rfl rfl rfl,
      show ridx_main_v94 (ix5 b h n c e) d = ix5 b h n d e from ext5 rfl rfl rfl rfl rfl]
  · rw [show lidx_main_v313 (ix5 b h n c e) d = ix5 b h n c d from ext5 rfl rfl rfl rfl rfl,
      show ridx_main_v313 (ix5 b h n c e) d = ix5 b h n d e from ext5 rfl rfl rfl rfl rfl]
  · pointwise [val_main_v315, val_main_v314]

/-- The rotated queries. -/
theorem at70 (b : Fin 4) (h : Fin 5) (n : Fin 32) (c d : Fin 128) : val_main_v70 (F := Ideal) A (ix5 b h n c d)
    = A (ix2 ⟨b.val * 4096 + (n.val * 128 + c.val), by omega⟩ ⟨5120 + (h.val * 128 + d.val), by omega⟩)
        * val_main_v27 (F := Ideal) (ix2 ⟨n.val * 128 + c.val, by omega⟩ d)
      + (if d.val < 64 then -A (ix2 ⟨b.val * 4096 + (n.val * 128 + c.val), by omega⟩ ⟨5120 + (h.val * 128 + (d.val + 64) % 128), by omega⟩)
        else A (ix2 ⟨b.val * 4096 + (n.val * 128 + c.val), by omega⟩ ⟨5120 + (h.val * 128 + (d.val + 64) % 128), by omega⟩))
        * val_main_v28 (F := Ideal) (ix2 ⟨n.val * 128 + c.val, by omega⟩ d) := by
  pointwise [val_main_v70, val_main_v41, val_main_v39, val_main_v38, val_main_v37, val_main_v36, val_main_v35, val_main_v34, val_main_v33,
    val_main_v32, val_main_v31, val_main_v30, val_main_v29, val_main_v19, val_main_v18, val_main_v2, val_main_v1, val_main_v0]
  refine congrArg₂ (HAdd.hAdd : EReal → EReal → EReal) rfl (congrArg₂ (HMul.hMul : EReal → EReal → EReal) ?_ rfl)
  split
  · exact congrArg (fun x => -A (ix2 _ x)) (Fin.ext (by simp only; omega))
  · exact congrArg (fun x => A (ix2 _ x)) (Fin.ext (by simp only; omega))

/-- The rotated and scaled keys. -/
theorem at71 (b : Fin 4) (h : Fin 5) (n : Fin 32) (c d : Fin 128) : val_main_v71 (F := Ideal) A (ix5 b h n c d)
    = (A (ix2 ⟨b.val * 4096 + (n.val * 128 + c.val), by omega⟩ ⟨5760 + (h.val * 128 + d.val), by omega⟩)
        * val_main_v51 (F := Ideal) (ix2 ⟨n.val * 128 + c.val, by omega⟩ d)
      + (if d.val < 64 then -A (ix2 ⟨b.val * 4096 + (n.val * 128 + c.val), by omega⟩ ⟨5760 + (h.val * 128 + (d.val + 64) % 128), by omega⟩)
        else A (ix2 ⟨b.val * 4096 + (n.val * 128 + c.val), by omega⟩ ⟨5760 + (h.val * 128 + (d.val + 64) % 128), by omega⟩))
        * val_main_v52 (F := Ideal) (ix2 ⟨n.val * 128 + c.val, by omega⟩ d)) * val_main_cst_4 (F := Ideal) ix0 := by
  pointwise [val_main_v71, val_main_v69, val_main_v68, val_main_v65, val_main_v63, val_main_v62, val_main_v61, val_main_v60, val_main_v59,
    val_main_v58, val_main_v57, val_main_v56, val_main_v55, val_main_v54, val_main_v53, val_main_v43, val_main_v42, val_main_v3, val_main_v1,
    val_main_v0]
  refine congrArg₂ (HMul.hMul : EReal → EReal → EReal) (congrArg₂ (HAdd.hAdd : EReal → EReal → EReal)
    (congrArg₂ (HMul.hMul : EReal → EReal → EReal) (congrArg (fun x => A (ix2 _ x)) (Fin.ext (by simp only; omega))) rfl)
    (congrArg₂ (HMul.hMul : EReal → EReal → EReal) ?_ rfl)) rfl
  split
  · exact congrArg (fun x => -A (ix2 _ x)) (Fin.ext (by simp only; omega))
  · exact congrArg (fun x => A (ix2 _ x)) (Fin.ext (by simp only; omega))

/-- The values. -/
theorem at72 (b : Fin 4) (h : Fin 5) (n : Fin 32) (s e : Fin 128) : val_main_v72 (F := Ideal) A (ix5 b h n s e)
    = A (ix2 ⟨b.val * 4096 + (n.val * 128 + s.val), by omega⟩ ⟨6400 + (h.val * 128 + e.val), by omega⟩) := by
  pointwise [val_main_v72, val_main_v67, val_main_v66, val_main_v4, val_main_v1, val_main_v0]
  exact congrArg (fun x => A (ix2 _ x)) (Fin.ext (by simp only; omega))

/-- The chunks laid out along the sequence. -/
theorem at318 (b : Fin 4) (h : Fin 5) (n : Fin 32) (c e : Fin 128) : val_main_v318 (F := Ideal) A (ix4 b h ⟨n.val * 128 + c.val, by omega⟩ e)
    = val_main_v317 (F := Ideal) A (ix5 b h n c e) := by
  rw [val_main_v318_apply]
  have hb := b.isLt; have hh := h.isLt; have hn := n.isLt; have hc := c.isLt; have he := e.isLt
  refine congrArg (val_main_v317 (F := Ideal) A) (ext5 ?_ ?_ ?_ ?_ ?_)
  · show (((b.val * 5 + h.val) * 4096 + (n.val * 128 + c.val)) * 128 + e.val) / 2621440 = b.val; omega
  · show (((b.val * 5 + h.val) * 4096 + (n.val * 128 + c.val)) * 128 + e.val) / 524288 % 5 = h.val; omega
  · show (((b.val * 5 + h.val) * 4096 + (n.val * 128 + c.val)) * 128 + e.val) / 16384 % 32 = n.val; omega
  · show (((b.val * 5 + h.val) * 4096 + (n.val * 128 + c.val)) * 128 + e.val) / 128 % 128 = c.val; omega
  · show (((b.val * 5 + h.val) * 4096 + (n.val * 128 + c.val)) * 128 + e.val) % 128 = e.val; omega

/-- The sum of the squares of a head's row. -/
theorem at321 (b : Fin 4) (h : Fin 5) (r : Fin 4096) : val_main_v321 (F := Ideal) A (ix3 b h r)
    = ∑ d : Fin 128, val_main_v318 (F := Ideal) A (ix4 b h r d) * val_main_v318 (F := Ideal) A (ix4 b h r d) := by
  rw [val_main_v321_apply, show val_main_cst_11 (F := Ideal) (Shape.Idx.first h_S_) = (0 : EReal) from Ideal.ofBits_zero_f32, zero_add]
  refine Finset.sum_congr rfl fun d _ => ?_
  rw [show idx_main_v321 (ix3 b h r) d = ix4 b h r d from ext4 rfl rfl rfl rfl, val_main_v320_apply]
  rfl

/-- The normed row of a head, times its gain. -/
theorem at332 (b : Fin 4) (h : Fin 5) (r : Fin 4096) (e : Fin 128) : val_main_v332 (F := Ideal) A g (ix4 b h r e)
    = val_main_v318 (F := Ideal) A (ix4 b h r e)
      * Ideal.rsqrt (Ideal.div (val_main_v321 (F := Ideal) A (ix3 b h r)) (val_main_cst_12 (F := Ideal) ix0) + val_main_cst_13 (F := Ideal) ix0)
      * g (ix1 ⟨h.val * 128 + e.val, by omega⟩) := by
  rw [val_main_v332_apply, val_main_v331_apply, val_main_v330_apply, val_main_v319_apply, val_main_v329_apply, val_main_v328_apply,
    val_main_v327_apply, val_main_v326_apply, val_main_v325_apply, val_main_v324_apply, val_main_v323_apply, val_main_v322_apply]
  rw [show idx_main_v322 (idx_main_v328 (ix4 b h r e)) = ix3 b h r from by funext x; fin_cases x <;> rfl,
    show idx_main_v319 (idx_main_v330 (idx_main_v331 (ix4 b h r e))) = ix1 ⟨h.val * 128 + e.val, by omega⟩ from by
      funext x; fin_cases x; exact Fin.ext (by show (h.val * 1 + 0) * 128 + e.val = h.val * 128 + e.val; omega),
    show idx_main_v323 (idx_main_v328 (ix4 b h r e)) = ix0 from funext fun a => a.elim0,
    show idx_main_v325 (idx_main_v328 (ix4 b h r e)) = ix0 from funext fun a => a.elim0]
  generalize val_main_v318 (F := Ideal) A (ix4 b h r e) = z
  generalize val_main_v321 (F := Ideal) A (ix3 b h r) = w
  rfl

/-- The gate of a row: `x * sigmoid(x)` of the gate's columns. -/
theorem at335 (b : Fin 4) (r : Fin 4096) (x : Fin 640) : val_main_v335 (F := Ideal) A (ix3 b r x)
    = A (ix2 ⟨b.val * 4096 + r.val, by omega⟩ ⟨7040 + x.val, by omega⟩)
      * Ideal.logistic (A (ix2 ⟨b.val * 4096 + r.val, by omega⟩ ⟨7040 + x.val, by omega⟩)) := by
  pointwise [val_main_v335, val_main_call4_v5, val_main_call4_v4, val_main_call4_v3, val_main_call4_v2, val_main_call4_v1, val_main_call4_v0,
    val_main_call4_cst, val_main_call4_cst_0, val_main_v5, val_main_v1, val_main_v0]
  rw [show (⟨5120 + (1920 + x.val), by omega⟩ : Fin 7680) = ⟨7040 + x.val, by omega⟩ from Fin.ext (by simp only; omega)]
  rfl

/-- A result of the retention: the normed row of a head times the gate. -/
theorem at338 (b : Fin 4) (r : Fin 4096) (h : Fin 5) (e : Fin 128) :
    val_main_v338 (F := Ideal) A g (ix2 ⟨b.val * 4096 + r.val, by omega⟩ ⟨h.val * 128 + e.val, by omega⟩)
    = val_main_v332 (F := Ideal) A g (ix4 b h r e) * val_main_v335 (F := Ideal) A (ix3 b r ⟨h.val * 128 + e.val, by omega⟩) := by
  rw [val_main_v338_apply, val_main_v337_apply, val_main_v336_apply, val_main_v334_apply, val_main_v333_apply]
  have hb := b.isLt; have hh := h.isLt; have hr := r.isLt; have he := e.isLt
  rw [show idx_main_v337 (ix2 ⟨b.val * 4096 + r.val, by omega⟩ ⟨h.val * 128 + e.val, by omega⟩) = ix3 b r ⟨h.val * 128 + e.val, by omega⟩ from by
      funext x; fin_cases x
      · exact Fin.ext (by show ((b.val * 4096 + r.val) * 640 + (h.val * 128 + e.val)) / 2621440 = b.val; omega)
      · exact Fin.ext (by show ((b.val * 4096 + r.val) * 640 + (h.val * 128 + e.val)) / 640 % 4096 = r.val; omega)
      · exact Fin.ext (by show ((b.val * 4096 + r.val) * 640 + (h.val * 128 + e.val)) % 640 = h.val * 128 + e.val; omega),
    show idx_main_v333 (idx_main_v334 (ix3 b r ⟨h.val * 128 + e.val, by omega⟩)) = ix4 b h r e from ext4
      (by show ((b.val * 4096 + r.val) * 640 + (h.val * 128 + e.val)) / 2621440 = b.val; omega)
      (by show ((b.val * 4096 + r.val) * 640 + (h.val * 128 + e.val)) / 128 % 5 = h.val; omega)
      (by show ((b.val * 4096 + r.val) * 640 + (h.val * 128 + e.val)) / 640 % 4096 = r.val; omega)
      (by show ((b.val * 4096 + r.val) * 640 + (h.val * 128 + e.val)) % 128 = e.val; omega)]
  generalize val_main_v332 (F := Ideal) A g (ix4 b h r e) = z
  generalize val_main_v335 (F := Ideal) A (ix3 b r ⟨h.val * 128 + e.val, by omega⟩) = w
  rfl

/-- The state before a chunk, as a recursion over the chunks. -/
def refSt (b : Fin 4) (h : Fin 5) (d e : Fin 128) : ℕ → EReal
  | 0 => 0
  | k + 1 => refSt b h d e k * val_main_v108 (F := Ideal) (ix1 h)
      + if hk : k < 32 then val_main_v105 (F := Ideal) A (ix5 b h ⟨k, hk⟩ d e) else 0

/-- The array `X` is the state before chunk `k`. -/
def IsSt (X : FVec Ideal S4x5x128x128 .f32) (k : ℕ) : Prop := ∀ b h d e, X (ix4 b h d e) = refSt A b h d e k

/-- One step of the scan: the state decayed by a chunk, plus the chunk's update. -/
theorem isSt_step (X : FVec Ideal S4x5x128x128 .f32) (k : ℕ) (hk : k < 32)
    (hs : S4x5x32x128x128.Slices ![0, 0, k, 0, 0] S4x5x1x128x128) (hX : IsSt A X k) :
    IsSt A (addf (mulf X (broadcastInDim S4x5x128x128 ![0, 1, 2, 3] bcast_S1x5x1x1_S4x5x128x128_0_1_2_3 (val_main_v109 (F := Ideal))))
      (shapeCast S4x5x128x128 (extractStridedSlice S4x5x1x128x128 ![0, 0, k, 0, 0] (val_main_v105 (F := Ideal) A) hs)
        shapeCasts_S4x5x1x128x128_S4x5x128x128)) (k + 1) := by
  intro b h d e
  rw [refSt, dif_pos hk, ← hX b h d e]
  refine congrArg₂ (HAdd.hAdd : EReal → EReal → EReal) (congrArg₂ (HMul.hMul : EReal → EReal → EReal) rfl ?_) ?_
  · rw [show broadcastInDim S4x5x128x128 ![0, 1, 2, 3] bcast_S1x5x1x1_S4x5x128x128_0_1_2_3 (val_main_v109 (F := Ideal)) = val_main_v111 from rfl,
      val_main_v111_apply, val_main_v109_apply]
    exact congrArg (val_main_v108 (F := Ideal)) (by funext x; fin_cases x; rfl)
  · generalize val_main_v105 (F := Ideal) A = Y
    rw [shapeCast_apply _ _ _ (ix5 b h (0 : Fin 1) d e) (by
      rewrite [Shape.rowMajor_val_five, Shape.rowMajor_val_four]
      show (((b.val * 5 + h.val) * 1 + 0) * 128 + d.val) * 128 + e.val = ((b.val * 5 + h.val) * 128 + d.val) * 128 + e.val; omega)]
    exact extractStridedSlice_apply _ _ _ _ (ix5 b h ⟨k, hk⟩ d e) (fun a => by
      fin_cases a
      · exact (Nat.zero_add _).symm
      · exact (Nat.zero_add _).symm
      · rfl
      · exact (Nat.zero_add _).symm
      · exact (Nat.zero_add _).symm)

/-- A state, as one piece of the stack of all states: at the index that names it, it is the recursion's state. -/
theorem stPiece (X : FVec Ideal S4x5x128x128 .f32) (b : Fin 4) (h : Fin 5) (n : Fin 16) (d e : Fin 128) (k j : ℕ) {o : ℕ} (hk : k = o + j)
    (hX : IsSt A X k) : PieceAt (t := S4x5x16x128x128) 2 (ix5 b h n d e) (refSt A b h d e (o + n.val)) S4x5x1x128x128
      (broadcastInDim S4x5x1x128x128 ![0, 1, 3, 4] bcast_S4x5x128x128_S4x5x1x128x128_0_1_3_4 X) j := by
  intro hn hr i hi0 hoff
  have hn' : n.val = j := hn
  rw [hn', ← hk, ← hX b h d e]
  refine broadcastInDim_apply _ _ X i (ix4 b h d e) (fun a => ?_)
  fin_cases a
  · exact (hoff 0 (by decide)).symm
  · exact (hoff 1 (by decide)).symm
  · exact (hoff 3 (by decide)).symm
  · exact (hoff 4 (by decide)).symm

/-- The two halves of the stack of states. -/
theorem at303_304 (b : Fin 4) (h : Fin 5) (n : Fin 16) (d e : Fin 128) :
    val_main_v303 (F := Ideal) A (ix5 b h n d e) = refSt A b h d e (0 + n.val)
    ∧ val_main_v304 (F := Ideal) A (ix5 b h n d e) = refSt A b h d e (16 + n.val) := by
  have s0 : IsSt A (val_main_v110 (F := Ideal)) 0 := fun b h d e => by
    rw [val_main_v110_apply]; exact Ideal.ofBits_zero_f32
  have s1 : IsSt A (val_main_v115 (F := Ideal) A) 1 := isSt_step A _ 0 (by decide) _ s0
  have s2 : IsSt A (val_main_v120 (F := Ideal) A) 2 := isSt_step A _ 1 (by decide) _ s1
  have s3 : IsSt A (val_main_v125 (F := Ideal) A) 3 := isSt_step A _ 2 (by decide) _ s2
  have s4 : IsSt A (val_main_v130 (F := Ideal) A) 4 := isSt_step A _ 3 (by decide) _ s3
  have s5 : IsSt A (val_main_v135 (F := Ideal) A) 5 := isSt_step A _ 4 (by decide) _ s4
  have s6 : IsSt A (val_main_v140 (F := Ideal) A) 6 := isSt_step A _ 5 (by decide) _ s5
  have s7 : IsSt A (val_main_v145 (F := Ideal) A) 7 := isSt_step A _ 6 (by decide) _ s6
  have s8 : IsSt A (val_main_v150 (F := Ideal) A) 8 := isSt_step A _ 7 (by decide) _ s7
  have s9 : IsSt A (val_main_v155 (F := Ideal) A) 9 := isSt_step A _ 8 (by decide) _ s8
  have s10 : IsSt A (val_main_v160 (F := Ideal) A) 10 := isSt_step A _ 9 (by decide) _ s9
  have s11 : IsSt A (val_main_v165 (F := Ideal) A) 11 := isSt_step A _ 10 (by decide) _ s10
  have s12 : IsSt A (val_main_v170 (F := Ideal) A) 12 := isSt_step A _ 11 (by decide) _ s11
  have s13 : IsSt A (val_main_v175 (F := Ideal) A) 13 := isSt_step A _ 12 (by decide) _ s12
  have s14 : IsSt A (val_main_v180 (F := Ideal) A) 14 := isSt_step A _ 13 (by decide) _ s13
  have s15 : IsSt A (val_main_v185 (F := Ideal) A) 15 := isSt_step A _ 14 (by decide) _ s14
  have s16 : IsSt A (val_main_v190 (F := Ideal) A) 16 := isSt_step A _ 15 (by decide) _ s15
  have s17 : IsSt A (val_main_v195 (F := Ideal) A) 17 := isSt_step A _ 16 (by decide) _ s16
  have s18 : IsSt A (val_main_v200 (F := Ideal) A) 18 := isSt_step A _ 17 (by decide) _ s17
  have s19 : IsSt A (val_main_v205 (F := Ideal) A) 19 := isSt_step A _ 18 (by decide) _ s18
  have s20 : IsSt A (val_main_v210 (F := Ideal) A) 20 := isSt_step A _ 19 (by decide) _ s19
  have s21 : IsSt A (val_main_v215 (F := Ideal) A) 21 := isSt_step A _ 20 (by decide) _ s20
  have s22 : IsSt A (val_main_v220 (F := Ideal) A) 22 := isSt_step A _ 21 (by decide) _ s21
  have s23 : IsSt A (val_main_v225 (F := Ideal) A) 23 := isSt_step A _ 22 (by decide) _ s22
  have s24 : IsSt A (val_main_v230 (F := Ideal) A) 24 := isSt_step A _ 23 (by decide) _ s23
  have s25 : IsSt A (val_main_v235 (F := Ideal) A) 25 := isSt_step A _ 24 (by decide) _ s24
  have s26 : IsSt A (val_main_v240 (F := Ideal) A) 26 := isSt_step A _ 25 (by decide) _ s25
  have s27 : IsSt A (val_main_v245 (F := Ideal) A) 27 := isSt_step A _ 26 (by decide) _ s26
  have s28 : IsSt A (val_main_v250 (F := Ideal) A) 28 := isSt_step A _ 27 (by decide) _ s27
  have s29 : IsSt A (val_main_v255 (F := Ideal) A) 29 := isSt_step A _ 28 (by decide) _ s28
  have s30 : IsSt A (val_main_v260 (F := Ideal) A) 30 := isSt_step A _ 29 (by decide) _ s29
  have s31 : IsSt A (val_main_v265 (F := Ideal) A) 31 := isSt_step A _ 30 (by decide) _ s30
  constructor
  · exact concatenate_unit_eq _ _ _ _ _ rfl ⟨stPiece A _ b h n d e 0 0 rfl s0, stPiece A _ b h n d e 1 1 rfl s1, stPiece A _ b h n d e 2 2 rfl s2, stPiece A _ b h n d e 3 3 rfl s3, stPiece A _ b h n d e 4 4 rfl s4, stPiece A _ b h n d e 5 5 rfl s5, stPiece A _ b h n d e 6 6 rfl s6, stPiece A _ b h n d e 7 7 rfl s7, stPiece A _ b h n d e 8 8 rfl s8, stPiece A _ b h n d e 9 9 rfl s9, stPiece A _ b h n d e 10 10 rfl s10, stPiece A _ b h n d e 11 11 rfl s11, stPiece A _ b h n d e 12 12 rfl s12, stPiece A _ b h n d e 13 13 rfl s13, stPiece A _ b h n d e 14 14 rfl s14, stPiece A _ b h n d e 15 15 rfl s15, trivial⟩
  · exact concatenate_unit_eq _ _ _ _ _ rfl ⟨stPiece A _ b h n d e 16 0 rfl s16, stPiece A _ b h n d e 17 1 rfl s17, stPiece A _ b h n d e 18 2 rfl s18, stPiece A _ b h n d e 19 3 rfl s19, stPiece A _ b h n d e 20 4 rfl s20, stPiece A _ b h n d e 21 5 rfl s21, stPiece A _ b h n d e 22 6 rfl s22, stPiece A _ b h n d e 23 7 rfl s23, stPiece A _ b h n d e 24 8 rfl s24, stPiece A _ b h n d e 25 9 rfl s25, stPiece A _ b h n d e 26 10 rfl s26, stPiece A _ b h n d e 27 11 rfl s27, stPiece A _ b h n d e 28 12 rfl s28, stPiece A _ b h n d e 29 13 rfl s29, stPiece A _ b h n d e 30 14 rfl s30, stPiece A _ b h n d e 31 15 rfl s31, trivial⟩

/-- The stack of states at a chunk is the recursion's state before it. -/
theorem at305 (b : Fin 4) (h : Fin 5) (n : Fin 32) (d e : Fin 128) :
    val_main_v305 (F := Ideal) A (ix5 b h n d e) = refSt A b h d e n.val := by
  unfold val_main_v305
  by_cases hn : n.val < 16
  · have e0 := (at303_304 A b h ⟨n.val, hn⟩ d e).1
    rw [Nat.zero_add] at e0
    rw [← e0]
    generalize val_main_v303 (F := Ideal) A = X
    generalize val_main_v304 (F := Ideal) A = Y
    exact concatenate_pair_apply_left (t := S4x5x32x128x128) (s₁ := S4x5x16x128x128) (s₂ := S4x5x16x128x128) 2 X Y _ _ rfl
      (ix5 b h ⟨n.val, hn⟩ d e) (fun a => by fin_cases a <;> rfl)
  · have e0 := (at303_304 A b h ⟨n.val - 16, by omega⟩ d e).2
    rw [show 16 + (⟨n.val - 16, by omega⟩ : Fin 16).val = n.val from by simp only; omega] at e0
    rw [← e0]
    generalize val_main_v303 (F := Ideal) A = X
    generalize val_main_v304 (F := Ideal) A = Y
    refine concatenate_pair_apply_right (t := S4x5x32x128x128) (s₁ := S4x5x16x128x128) (s₂ := S4x5x16x128x128) 2 X Y _ _ rfl rfl
      (ix5 b h ⟨n.val - 16, by omega⟩ d e) (fun a ha => ?_) ?_
    · fin_cases a <;> first | rfl | exact absurd rfl ha
    · show n.val - 16 + 16 = n.val; omega

end Cert.RetRefIdeal.Reading
-- ==== Proof.Ret.lean ====
/- Retention: the kernel's blocks, point after point with the state carried between them, are the reference's array. -/
module

public import proofs.«01_k».proof.Proof.RetTables
public import proofs.«01_k».proof.Proof.RetChunk
public import proofs.«01_k».proof.Proof.RetRead
public import proofs.«01_k».proof.Proof.Gen.RetIdeal.Value
public import proofs.«01_k».proof.Proof.Gen.RetRefIdeal.Run
public import proofs.«01_k».proof.Defs

@[expose] public section

set_option maxRecDepth 16384

noncomputable section

namespace Cert.RetIdeal.RefValue

open Cert.RetIdeal Cert.RetIdeal.Gen Idealize.ShloMosaic Idealize.ShloMosaic.TcCoe Idealize.SL.Sem
open Cert.RetRefIdeal.Read Cert.RetRefIdeal.Reading

variable (m : (ℓ : Loc nD τ sig) → Buf (Elt Ideal) ℓ)

/-- The projected inputs. -/
abbrev arrA (c : Dev nD) : S16384x7680.Idx → EReal := m ((c : Thread nD τ).loc main_arg0)
/-- The gains. -/
abbrev arrG (c : Dev nD) : S640.Idx → EReal := m ((c : Thread nD τ).loc main_arg1)

/-- The batch a point works on. -/
abbrev bat (t : Fin cfg0.N) : Fin 4 := ⟨t.val / 8, by have := lt32 t; omega⟩
/-- Chunk `n` of a point, among its batch's. -/
abbrev chk (t : Fin cfg0.N) (n : Fin 4) : Fin 32 := ⟨4 * (t.val % 8) + n.val, by omega⟩
/-- Row `a` of a chunk, among its batch's rows. -/
abbrev pos (t : Fin cfg0.N) (n : Fin 4) (a : Fin 128) : Fin 4096 := ⟨(chk t n).val * 128 + a.val, by omega⟩
/-- Row `a` of a chunk, among all rows. -/
abbrev row (t : Fin cfg0.N) (n : Fin 4) (a : Fin 128) : Fin 16384 := ⟨(bat t).val * 4096 + ((chk t n).val * 128 + a.val), by omega⟩

theorem row_eq (t : Fin cfg0.N) (n : Fin 4) (a : Fin 128) (hl) : (⟨t.val * 512 + (n.val * 128 + a.val), hl⟩ : Fin 16384) = row t n a :=
  Fin.ext (by show t.val * 512 + (n.val * 128 + a.val) = t.val / 8 * 4096 + ((4 * (t.val % 8) + n.val) * 128 + a.val); omega)

theorem pos_eq (t : Fin cfg0.N) (n : Fin 4) (a : Fin 128) (hl) : (⟨t.val % 8 * 512 + (n.val * 128 + a.val), hl⟩ : Fin 4096) = pos t n a :=
  Fin.ext (by show t.val % 8 * 512 + (n.val * 128 + a.val) = (4 * (t.val % 8) + n.val) * 128 + a.val; omega)

theorem one : Ideal.ofBits .f32 0x3F800000#32 = (1 : EReal) := by
  rw [← EReal.coe_one]
  simp [Ideal.ofBits, Ideal.ieee, -EReal.coe_mul, -EReal.coe_one]; norm_num

/-- The sign goes with the sines in the kernel and with the rolled input in the reference. -/
theorem sign (x s : EReal) (d : Fin 128) : x * (s * (if d.val < 64 then -(Ideal.ofBits FTy.f32 0x3F800000#32 : EReal) else Ideal.ofBits FTy.f32 0x3F800000#32))
    = (if d.val < 64 then -x else x) * s := by
  rw [one]
  by_cases hd : d.val < 64
  · rw [if_pos hd, if_pos hd, mul_neg, mul_one, mul_neg, neg_mul]
  · rw [if_neg hd, if_neg hd, mul_one]

theorem q_at (c : Dev nD) (t : Fin cfg0.N) (n : Fin 4) (h : Fin 5) (a d : Fin 128) : cutW (iblk m c 0 t) n h (ix2 a d)
    = arrA m c (ix2 (row t n a) ⟨5120 + (h.val * 128 + d.val), by omega⟩) := by
  rw [cutW_at, blk0, row_eq]

theorem k_at (c : Dev nD) (t : Fin cfg0.N) (n : Fin 4) (h : Fin 5) (a d : Fin 128) : cutW (iblk m c 1 t) n h (ix2 a d)
    = arrA m c (ix2 (row t n a) ⟨5760 + (h.val * 128 + d.val), by omega⟩) := by
  rw [cutW_at, blk1, row_eq]

theorem v_at (c : Dev nD) (t : Fin cfg0.N) (n : Fin 4) (h : Fin 5) (a d : Fin 128) : cutW (iblk m c 2 t) n h (ix2 a d)
    = val_main_v72 (F := Ideal) (arrA m c) (ix5 (bat t) h (chk t n) a d) := by
  rw [cutW_at, blk2, row_eq, at72]

theorem gate_at (c : Dev nD) (t : Fin cfg0.N) (n : Fin 4) (h : Fin 5) (a d : Fin 128) : cutW (iblk m c 3 t) n h (ix2 a d)
    = arrA m c (ix2 (row t n a) ⟨7040 + (h.val * 128 + d.val), by omega⟩) := by
  rw [cutW_at, blk3, row_eq]

theorem cos_at (c : Dev nD) (t : Fin cfg0.N) (n : Fin 4) (a d : Fin 128) : cutR (iblk m c 4 t) n (ix2 a d)
    = val_main_v27 (F := Ideal) (ix2 (pos t n a) d) := by
  rw [cutR_at, blk4, pos_eq, tab4]

theorem sin_at (c : Dev nD) (t : Fin cfg0.N) (n : Fin 4) (a d : Fin 128) : cutR (iblk m c 5 t) n (ix2 a d)
    = val_main_v28 (F := Ideal) (ix2 (pos t n a) d)
      * (if d.val < 64 then -(Ideal.ofBits FTy.f32 0x3F800000#32 : EReal) else Ideal.ofBits FTy.f32 0x3F800000#32) := by
  rw [cutR_at, blk5, pos_eq, tab5]

/-- The queries of a chunk. -/
theorem query_eq (c : Dev nD) (t : Fin cfg0.N) (n : Fin 4) (h : Fin 5) (a d : Fin 128) :
    k0_pay18 (k0_pay10 (cutR (iblk m c 4 t) n)) (k0_pay11 (cutR (iblk m c 5 t) n)) (cutW (iblk m c 0 t) n h) (ix2 a d)
    = val_main_v70 (F := Ideal) (arrA m c) (ix5 (bat t) h (chk t n) a d) := by
  rw [queryV_at, q_at, q_at, cos_at, sin_at, sign, at70]

/-- The keys of a chunk. -/
theorem key_eq (c : Dev nD) (t : Fin cfg0.N) (n : Fin 4) (h : Fin 5) (a d : Fin 128) :
    keyV (cutW (iblk m c 1 t) n h) (cutR (iblk m c 4 t) n) (cutR (iblk m c 5 t) n) (ix2 a d)
    = val_main_v71 (F := Ideal) (arrA m c) (ix5 (bat t) h (chk t n) a d) := by
  rw [keyV_at, k_at, k_at, cos_at, sin_at, sign, at71, v51_eq, v52_eq]
  rfl

/-- One chunk's step of the state. -/
theorem step_eq (c : Dev nD) (t : Fin cfg0.N) (n : Fin 4) (h : Fin 5) (st : FVec Ideal S128x128 .f32) (d e : Fin 128)
    (hst : st (ix2 d e) = refSt (arrA m c) (bat t) h d e (chk t n).val) :
    stepV st (keyV (cutW (iblk m c 1 t) n h) (cutR (iblk m c 4 t) n) (cutR (iblk m c 5 t) n)) (cutW (iblk m c 2 t) n h)
      (cutH (iblk m c 7 t) h) (cut8 (iblk m c 9 t) h) (ix2 d e) = refSt (arrA m c) (bat t) h d e ((chk t n).val + 1) := by
  rw [stepV_at, hst, refSt, dif_pos (chk t n).isLt, at105, cut8_at, blk9, tab9]
  refine congrArg₂ (HAdd.hAdd : EReal → EReal → EReal) rfl (Finset.sum_congr rfl fun s _ => ?_)
  rw [key_eq, v_at, cutH_at, blk7, tab7]

/-- The state within a point, from what the point before left. -/
theorem stP_eq (c : Dev nD) (t : Fin cfg0.N) (S : Vec Ideal S5x128x128 .f32) (h : Fin 5) (d e : Fin 128)
    (hS : S (ix3 h d e) = refSt (arrA m c) (bat t) h d e (4 * (t.val % 8))) :
    ∀ (n : ℕ) (hn : n ≤ 4), stP m c t S h n hn (ix2 d e) = refSt (arrA m c) (bat t) h d e (4 * (t.val % 8) + n)
  | 0, _ => by
    rw [Nat.add_zero, ← hS, ← cutH_at S h d e, stP]
    pointwise [k0_pay5]
  | n + 1, hn => by
    rw [stP]
    exact step_eq m c t ⟨n, hn⟩ h _ d e (stP_eq c t S h d e hS n (Nat.le_of_succ_le hn))

/-- What the scratch holds when a point begins. -/
theorem carried (c : Dev nD) : ∀ (k : ℕ) (hk : k < cfg0.N) (h : Fin 5) (d e : Fin 128),
    (outsAt0 m c k hk).2 (ix3 h d e) = refSt (arrA m c) (bat ⟨k, hk⟩) h d e (4 * (k % 8) + 4)
  | 0, hk, h, d, e => by
    rw [st_A m c ⟨0, hk⟩ rfl]
    refine stP_eq m c ⟨0, hk⟩ _ h d e ?_ 4 le_rfl
    exact Ideal.ofBits_zero_f32
  | k + 1, hk, h, d, e => by
    by_cases h8 : (k + 1) % 8 = 0
    · rw [st_A m c ⟨k + 1, hk⟩ h8]
      refine stP_eq m c ⟨k + 1, hk⟩ _ h d e ?_ 4 le_rfl
      show _ = refSt _ _ _ _ _ (4 * ((k + 1) % 8))
      rw [h8]
      exact Ideal.ofBits_zero_f32
    · rw [st_B m c ⟨k + 1, hk⟩ h8]
      refine stP_eq m c ⟨k + 1, hk⟩ _ h d e ?_ 4 le_rfl
      refine (carried c k (Nat.lt_of_succ_lt hk) h d e).trans ?_
      have e1 : bat ⟨k, Nat.lt_of_succ_lt hk⟩ = bat ⟨k + 1, hk⟩ := Fin.ext (by show k / 8 = (k + 1) / 8; omega)
      rw [e1]
      exact congrArg _ (by show 4 * (k % 8) + 4 = 4 * ((k + 1) % 8); omega)

/-- The retention of a chunk before its norm. -/
theorem sum_eq (c : Dev nD) (t : Fin cfg0.N) (S : Vec Ideal S5x128x128 .f32) (n : Fin 4) (h : Fin 5) (a e : Fin 128)
    (hS : ∀ d e, S (ix3 h d e) = refSt (arrA m c) (bat t) h d e (4 * (t.val % 8))) :
    sumV (k0_pay18 (k0_pay10 (cutR (iblk m c 4 t) n)) (k0_pay11 (cutR (iblk m c 5 t) n)) (cutW (iblk m c 0 t) n h))
      (stP m c t S h n.val n.isLt.le)
      (innerV (k0_pay18 (k0_pay10 (cutR (iblk m c 4 t) n)) (k0_pay11 (cutR (iblk m c 5 t) n)) (cutW (iblk m c 0 t) n h))
        (keyV (cutW (iblk m c 1 t) n h) (cutR (iblk m c 4 t) n) (cutR (iblk m c 5 t) n)) (cutW (iblk m c 2 t) n h) (cutH (iblk m c 6 t) h))
      (cutH (iblk m c 8 t) h) a e = val_main_v318 (F := Ideal) (arrA m c) (ix4 (bat t) h (pos t n a) e) := by
  rw [sumV, innerV_at, at318, at317, cutH_at, blk8, tab8]
  refine congrArg₂ (HAdd.hAdd : EReal → EReal → EReal) (Finset.sum_congr rfl fun s _ => ?_)
    (congrArg₂ (HMul.hMul : EReal → EReal → EReal) (Finset.sum_congr rfl fun d _ => ?_) rfl)
  · rw [at93, v_at, cutH_at, blk6, tab6]
    refine congrArg₂ (HMul.hMul : EReal → EReal → EReal) (congrArg₂ (HMul.hMul : EReal → EReal → EReal) (Finset.sum_congr rfl fun y _ => ?_) rfl) rfl
    rw [query_eq, key_eq]
  · rw [query_eq, stP_eq m c t S h d e (hS d e), at305]

/-- What a point writes for a chunk of a head. -/
theorem outP_eq (c : Dev nD) (t : Fin cfg0.N) (S : Vec Ideal S5x128x128 .f32) (n : Fin 4) (h : Fin 5) (a e : Fin 128)
    (hS : ∀ d e, S (ix3 h d e) = refSt (arrA m c) (bat t) h d e (4 * (t.val % 8))) :
    outP m c t S n h (ix2 a e)
      = val_main_v338 (F := Ideal) (arrA m c) (arrG m c) (ix2 (row t n a) ⟨h.val * 128 + e.val, by omega⟩) := by
  rw [outP, chunkV_at, at338 (arrA m c) (arrG m c) (bat t) (pos t n a) h e, at332, at335, at321, gate_at, cut1_at, blk10, tab10]
  simp only [sum_eq m c t S n h a _ hS]
  rfl

/-- The point's block is the reference's. -/
theorem outG_eq (c : Dev nD) (t : Fin cfg0.N) (S : Vec Ideal S5x128x128 .f32)
    (hS : ∀ h d e, S (ix3 h d e) = refSt (arrA m c) (bat t) h d e (4 * (t.val % 8))) (y : S512x640.Idx) :
    outG m c t S y = val_main_v338 (F := Ideal) (arrA m c) (arrG m c) (((cfg0.win 11).blk t).view.emb y) := by
  have ht := lt32 t
  have hi := (idx t).2.2.2.2.2.2.2.2.2.2.2
  have h0 : (y 0).val < 512 := (y 0).isLt
  have h1 : (y 1).val < 640 := (y 1).isLt
  rw [outG, outP_eq m c t S _ _ _ _ (hS _)]
  refine congrArg _ ?_
  blk_ext [hi]

/-- The array the kernel writes is the reference's. -/
theorem final (c : Dev nD) : (dats m 0 c).arrAt 11 cfg0.N = val_main_v338 (F := Ideal) (arrA m c) (arrG m c) := by
  refine (dats m 0 c).arrAt_eq_of_covers 11 _ (by decide +kernel) fun t _ y => ?_
  blk_simp
  rw [after0_11]
  by_cases h : t.val % 8 = 0
  · rw [out_A m c t h]
    refine outG_eq m c t _ (fun h' d e => ?_) y
    rw [h]
    exact Ideal.ofBits_zero_f32
  · rw [out_B m c t h]
    refine outG_eq m c t _ (fun h' d e => ?_) y
    refine (carried m c (t.val - 1) _ h' d e).trans ?_
    have e1 : bat ⟨t.val - 1, Nat.lt_of_le_of_lt (Nat.sub_le _ _) t.isLt⟩ = bat t := Fin.ext (by show (t.val - 1) / 8 = t.val / 8; omega)
    rw [e1]
    exact congrArg _ (by omega)

end Cert.RetIdeal.RefValue

/-- The reference's run, its result as a function of its arguments. -/
theorem Cert.RetRefIdeal.Reading.run (m : (ℓ : Idealize.ShloMosaic.Loc Cert.RetRefIdeal.nD Cert.RetRefIdeal.τ Cert.RetRefIdeal.sig) →
      Idealize.ShloMosaic.Buf (Idealize.ShloMosaic.Elt Idealize.ShloMosaic.Ideal) ℓ)
    (ρ : Idealize.ShloMosaic.Dev Cert.RetRefIdeal.nD → Idealize.ShloMosaic.PrngReg) :
    Idealize.ShloMosaic.θ_run Cert.RetRefIdeal.defs (Idealize.ShloMosaic.onTc (τ := Cert.RetRefIdeal.τ) (Cert.RetRefIdeal.main (F := Idealize.ShloMosaic.Ideal)))
      ⟨m, fun _ => 0, ρ⟩ fun r => ∀ c : Idealize.ShloMosaic.Dev Cert.RetRefIdeal.nD,
      r.2.mem (c.tc.loc Cert.RetRefIdeal.main_v338) = Cert.RetRefIdeal.Read.val_main_v338 (F := Idealize.ShloMosaic.Ideal)
          (m (c.tc.loc Cert.RetRefIdeal.main_arg0)) (m (c.tc.loc Cert.RetRefIdeal.main_arg1))
      ∧ r.2.mem (c.tc.loc Cert.RetRefIdeal.main_arg0) = m (c.tc.loc Cert.RetRefIdeal.main_arg0)
      ∧ r.2.mem (c.tc.loc Cert.RetRefIdeal.main_arg1) = m (c.tc.loc Cert.RetRefIdeal.main_arg1) :=
  (Idealize.ShloMosaic.θ_run Cert.RetRefIdeal.defs _ _).mono
    (fun _ h c => ⟨(h c).1.trans (Cert.RetRefIdeal.Read.val_main_v338_eq (Idealize.ShloMosaic.StableHlo.launchContents m c)), (h c).2⟩)
    (Cert.RetRefIdeal.Value.run m ρ)

set_option maxHeartbeats 2000000 in
/-- The kernel and the reference end with the same result. -/
theorem Cert.RetIdeal.algebraic : Cert.algebraic_RetIdeal_RetRefIdeal := by
  pair_intro
  · run_from Cert.RetIdeal.Gen.run_main m g
    exact Cert.RetIdeal.Gen.V_main_arg1 m c
  · run_from Cert.RetRefIdeal.Reading.run m' g'
    exact (Cert.RetIdeal.RefValue.final m c).symm

end
-- ==== Proof.Main.lean ====
/- The input projection: every block the kernel writes is the product of the normalized rows with the columns of that
   block. -/
module

public import proofs.«01_k».proof.Proof.Gen.MainIdeal.Value
public import proofs.«01_k».proof.Proof.Gen.MainRefIdeal.Run
public import proofs.«01_k».proof.Proof.Gen.MainRefIdeal.Read
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

namespace Cert.MainIdeal.RefValue

open Cert.MainIdeal Cert.MainIdeal.Gen Idealize.ShloMosaic Idealize.ShloMosaic.TcCoe Idealize.SL.Sem
open Idealize.ShloMosaic.Pipeline (Dat)
open Cert.MainRefIdeal.Read (val_main_v0 val_main_v1 val_main_v2 val_main_v3 val_main_v4)

variable (m : (ℓ : Loc nD τ sig) → Buf (Elt Ideal) ℓ)

/-- Which block each window shows at a grid point. -/
theorem idx : ∀ t : Fin cfg0.N, win0_0.index t = ![t.val / 5, 0] ∧ win0_1.index t = ![0, 0, t.val % 5]
    ∧ win0_2.index t = ![t.val / 5, t.val % 5] :=
  (by decide +kernel : ∀ t : Fin grid0.N, _)

/-- What the body stores at an index of its block is the reference's value there. -/
theorem point (c : Dev nD) (t : Fin cfg0.N) (y : S1024x1536.Idx) :
    k0_pay1 (F := Ideal) (iblk m c 0 t) (iblk m c 1 t) y
      = val_main_v4 (F := Ideal) (m ((c : Thread nD τ).loc main_arg0)) (m ((c : Thread nD τ).loc main_arg1)) (((cfg0.win 2).blk t).view.emb y) := by
  pointwise [k0_pay1, val_main_v0, val_main_v1, val_main_v2, val_main_v3, val_main_v4]
  blk_point [iblk, V, idx t]

/-- The result array after the run. -/
theorem final (c : Dev nD) : (dats m 0 c).arrAt 2 (cfgs 0).N
    = val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.MainIdeal.RefValue

/-- The kernel and the reference end with the same result. -/
theorem Cert.MainIdeal.algebraic : Cert.algebraic_MainIdeal_MainRefIdeal := by
  pair_intro
  · run_from Cert.MainIdeal.Gen.run_main m g
  · run_from Cert.MainRefIdeal.Value.run m' g'
    exact (Cert.MainIdeal.RefValue.final m c).symm

end
-- ==== Proof.Merge.lean ====
/- The merge of the three branches: every block the kernel writes is the gated sum of the three projected branches at the
   rows and columns of that block. -/
module

public import proofs.«01_k».proof.Proof.Gen.MergeIdeal.Value
public import proofs.«01_k».proof.Proof.Gen.MergeRefIdeal.Run
public import proofs.«01_k».proof.Proof.Gen.MergeRefIdeal.Read
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

namespace Cert.MergeIdeal.RefValue

open Cert.MergeIdeal Cert.MergeIdeal.Gen Idealize.ShloMosaic Idealize.ShloMosaic.TcCoe Idealize.SL.Sem
open Idealize.ShloMosaic.Pipeline (Dat)
open Cert.MergeRefIdeal.Read (val_main_v0 val_main_v1 val_main_v2 val_main_v3 val_main_v4 val_main_v5 val_main_v6 val_main_v7 val_main_v8 val_main_v9 val_main_v10 val_main_v11 val_main_v12 val_main_v13 val_main_v14 val_main_v15 val_main_v16 val_main_v17 val_main_v18 val_main_v19 val_main_v20 val_main_v21 val_main_v22 val_main_v23)

variable (m : (ℓ : Loc nD τ sig) → Buf (Elt Ideal) ℓ)

/-- Which block each window shows at a grid point. -/
theorem idx : ∀ t : Fin cfg0.N, win0_0.index t = ![t.val / 2, 0] ∧ win0_1.index t = ![t.val / 2, 0]
    ∧ win0_2.index t = ![t.val / 2, 0] ∧ win0_3.index t = ![0, t.val % 2] ∧ win0_4.index t = ![0, t.val % 2]
    ∧ win0_5.index t = ![0, t.val % 2] ∧ win0_6.index t = ![t.val / 2, t.val % 2]
    ∧ win0_7.index t = ![t.val / 2, 2 + t.val % 2] ∧ win0_8.index t = ![t.val / 2, 4 + t.val % 2]
    ∧ win0_9.index t = ![t.val / 2, t.val % 2] :=
  (by decide +kernel : ∀ t : Fin grid0.N, _)

/-- What the body stores at an index of its block is the reference's value there. -/
theorem point (c : Dev nD) (t : Fin cfg0.N) (y : S1024x1024.Idx) :
    k0_pay1 (F := Ideal) (iblk m c 6 t) (iblk m c 0 t) (iblk m c 3 t) (iblk m c 7 t) (iblk m c 1 t) (iblk m c 4 t)
        (iblk m c 8 t) (iblk m c 2 t) (iblk m c 5 t) y
      = val_main_v23 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 9).blk t).view.emb y) := by
  pointwise [k0_pay1, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23]
  blk_point [iblk, V, idx t]

/-- The result array after the run. -/
theorem final (c : Dev nD) : (dats m 0 c).arrAt 9 (cfgs 0).N
    = val_main_v23 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t _ y => ?_
  blk_simp
  rw [after0_9]; frame_out
  exact point m c t y

end Cert.MergeIdeal.RefValue

/-- The kernel and the reference end with the same result. -/
theorem Cert.MergeIdeal.algebraic : Cert.algebraic_MergeIdeal_MergeRefIdeal := by
  pair_intro
  · run_from Cert.MergeIdeal.Gen.run_main m g
  · run_from Cert.MergeRefIdeal.Value.run m' g'
    exact (Cert.MergeIdeal.RefValue.final m c).symm

end
-- ==== Proof.Out.lean ====
/- The output projection with its residual: every block the kernel writes is the reference's `x + merged @ w` at the rows
   and columns of that block. -/
module

public import proofs.«01_k».proof.Proof.Gen.OutIdeal.Value
public import proofs.«01_k».proof.Proof.Gen.OutRefIdeal.Run
public import proofs.«01_k».proof.Proof.Gen.OutRefIdeal.Read
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

namespace Cert.OutIdeal.RefValue

open Cert.OutIdeal Cert.OutIdeal.Gen Idealize.ShloMosaic Idealize.ShloMosaic.TcCoe Idealize.SL.Sem
open Idealize.ShloMosaic.Pipeline (Dat)
open Cert.OutRefIdeal.Read (val_main_v0 val_main_v1 val_main_v2 val_main_v3)

variable (m : (ℓ : Loc nD τ sig) → Buf (Elt Ideal) ℓ)

/-- Which block each window shows at a grid point: rows by the first coordinate, columns by the second. -/
theorem idx : ∀ t : Fin cfg0.N, win0_0.index t = ![t.val / 2, 0] ∧ win0_1.index t = ![0, t.val % 2]
    ∧ win0_2.index t = ![t.val / 2, t.val % 2] ∧ win0_3.index t = ![t.val / 2, t.val % 2] :=
  (by decide +kernel : ∀ t : Fin grid0.N, _)

/-- What the body stores at an index of its block is the reference's sum there. -/
theorem point (c : Dev nD) (t : Fin cfg0.N) (y : S1024x1024.Idx) :
    k0_pay1 (F := Ideal) (iblk m c 2 t) (iblk m c 0 t) (iblk m c 1 t) y
      = val_main_v3 (F := Ideal) (m ((c : Thread nD τ).loc main_arg0)) (m ((c : Thread nD τ).loc main_arg1))
          (m ((c : Thread nD τ).loc main_arg2)) (((cfg0.win 3).blk t).view.emb y) := by
  pointwise [k0_pay1, val_main_v3, val_main_v2, val_main_v1, val_main_v0]
  blk_point [iblk, V, idx t]

/-- The result array after the run. -/
theorem final (c : Dev nD) : (dats m 0 c).arrAt 3 (cfgs 0).N
    = val_main_v3 (F := Ideal) (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]; frame_out
  exact point m c t y

end Cert.OutIdeal.RefValue

/-- The kernel and the reference end with the same result. -/
theorem Cert.OutIdeal.algebraic : Cert.algebraic_OutIdeal_OutRefIdeal := by
  pair_intro
  · run_from Cert.OutIdeal.Gen.run_main m g
  · run_from Cert.OutRefIdeal.Value.run m' g'
    exact (Cert.OutIdeal.RefValue.final m c).symm

end
-- ==== Proof.Up.lean ====
/- The feed-forward up-projection: every block the kernel writes is the reference's `silu(h @ w_gate) * (h @ w_up)` at the rows
   and columns of that block, `h` the normed rows the first point of each row block leaves in the scratch. -/
module

public import proofs.«01_k».proof.Proof.Gen.UpIdeal.Value
public import proofs.«01_k».proof.Proof.Gen.UpRefIdeal.Run
public import proofs.«01_k».proof.Proof.Gen.UpRefIdeal.Read
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.Silu
public import proofs.«01_k».proof.Defs

@[expose] public section

set_option maxRecDepth 16384

noncomputable section

namespace Cert.UpIdeal.RefValue

open Cert.UpIdeal Cert.UpIdeal.Gen Idealize.ShloMosaic Idealize.ShloMosaic.TcCoe Idealize.SL.Sem
open Idealize.ShloMosaic.Pipeline (Dat)
open Cert.UpRefIdeal.Read

variable (m : (ℓ : Loc nD τ sig) → Buf (Elt Ideal) ℓ)

/-- Which block each window shows at a grid point: rows by the first coordinate, columns by the second. -/
theorem idx : ∀ t : Fin cfg0.N, win0_0.index t = ![t.val / 11, 0] ∧ win0_1.index t = ![0, 0]
    ∧ win0_2.index t = ![0, t.val % 11] ∧ win0_3.index t = ![0, t.val % 11] ∧ win0_4.index t = ![t.val / 11, t.val % 11] :=
  (by decide +kernel : ∀ t : Fin grid0.N, _)

/-- The normed row block of a point. -/
def normG (c : Dev nD) (t : Fin cfg0.N) : Vec Ideal S1024x2048 .bf16 := fun y =>
  val_main_v12 (F := Ideal) (m ((c : Thread nD τ).loc main_arg0)) (m ((c : Thread nD τ).loc main_arg1))
    (((cfg0.win 0).blk t).view.emb y)

/-- What one trip of the norm's loop writes is the normed rows of its quarter of the block. -/
theorem tripAt (c : Dev nD) (t : Fin cfg0.N) (h : t.val % 11 = 0) (k : Fin k0_t1_loop.trips) :
    ∀ p ∈ tripL_k0_t1 (F := Ideal) Variants.none c none (grid0.coords t) (ms0_0 t) (hs0_0 t) (ms0_1 t) (hs0_1 t) (ms0_2 t) (hs0_2 t)
        (ms0_3 t) (hs0_3 t) (ms0_4 t) (hs0_4 t) scM0_0 (Memref.isWhole_whole cc0_scratch0) ((hcond0_0 t).mpr h)
        ((hs0_0 t).unread (iblk m c 0 t)) ((hs0_1 t).unread (iblk m c 1 t)) k,
      ∀ x, p.2 x = normG m c t (p.1.emb x) := by
  intro p hp
  unfold tripL_k0_t1 trip_k0_t1 at hp
  rw [List.mem_singleton] at hp
  subst hp
  intro x
  change S256x2048.Idx at x
  dsimp only
  rw [View.readAt_eq_ld, View.readAt_eq_ld, Memref.IsWhole.read_unread, Memref.IsWhole.read_unread]
  pointwise [k0_pay1, normG, val_main_v12, val_main_v11, val_main_v10, val_main_v9, val_main_v8, val_main_v7, val_main_v6, val_main_v5,
    val_main_v4, val_main_v3, val_main_v2, val_main_v1, val_main_v0, val_main_cst, val_main_cst_0, val_main_cst_1]
  have e : k0_off1 k 1 = 0 := rfl
  blk_point [iblk, V, idx t]
  all_goals omega

/-- What the norm's loop has written after `k` trips. -/
theorem loopAt (c : Dev nD) (t : Fin cfg0.N) (h : t.val % 11 = 0) : ∀ k : ℕ, k ≤ k0_t1_loop.trips →
    ∀ p ∈ pb_k0_t1 (F := Ideal) Variants.none c none (grid0.coords t) (ms0_0 t) (hs0_0 t) (ms0_1 t) (hs0_1 t) (ms0_2 t) (hs0_2 t)
        (ms0_3 t) (hs0_3 t) (ms0_4 t) (hs0_4 t) scM0_0 (Memref.isWhole_whole cc0_scratch0) ((hcond0_0 t).mpr h)
        ((hs0_0 t).unread (iblk m c 0 t)) ((hs0_1 t).unread (iblk m c 1 t)) k,
      ∀ x, p.2 x = normG m c t (p.1.emb x) := by
  intro k
  induction k with
  | zero => intro _ p hp; exact absurd hp (List.not_mem_nil)
  | succ k ih =>
    intro hk p hp
    rw [pb_k0_t1_succ (F := Ideal) Variants.none c none (grid0.coords t) (ms0_0 t) (hs0_0 t) (ms0_1 t) (hs0_1 t) (ms0_2 t) (hs0_2 t)
        (ms0_3 t) (hs0_3 t) (ms0_4 t) (hs0_4 t) scM0_0 (Memref.isWhole_whole cc0_scratch0) ((hcond0_0 t).mpr h)
        ((hs0_0 t).unread (iblk m c 0 t)) ((hs0_1 t).unread (iblk m c 1 t)) ⟨k, hk⟩] at hp
    rcases List.mem_append.1 hp with hp | hp
    · exact tripAt m c t h ⟨k, hk⟩ p hp
    · exact ih (Nat.le_of_succ_le hk) p hp

/-- The loop's pieces, put together, are the normed rows of the block. -/
theorem canonAt (c : Dev nD) (t : Fin cfg0.N) (h : t.val % 11 = 0) : View.canon
      (pb_k0_t1 (F := Ideal) Variants.none c none (grid0.coords t) (ms0_0 t) (hs0_0 t) (ms0_1 t) (hs0_1 t) (ms0_2 t) (hs0_2 t)
        (ms0_3 t) (hs0_3 t) (ms0_4 t) (hs0_4 t) scM0_0 (Memref.isWhole_whole cc0_scratch0) ((hcond0_0 t).mpr h)
        ((hs0_0 t).unread (iblk m c 0 t)) ((hs0_1 t).unread (iblk m c 1 t))
        (Scf.trips (0#32) (Scalar.addi 0#32 4#32) 1#32)) = normG m c t := by
  funext y
  exact View.canon_apply_of_pieces (normG m c t) _ (loopAt m c t h _ le_rfl) y
    (scover0_A_0 c (grid0.coords t) (ms0_0 t) (hs0_0 t) (ms0_1 t) (hs0_1 t) (ms0_2 t) (hs0_2 t) (ms0_3 t) (hs0_3 t) (ms0_4 t) (hs0_4 t)
      scM0_0 (Memref.isWhole_whole cc0_scratch0) ((hcond0_0 t).mpr h) (iblk m c 0 t) (iblk m c 1 t) (iblk m c 2 t) (iblk m c 3 t) y)

theorem st_A (c : Dev nD) (t : Fin cfg0.N) (h : t.val % 11 = 0) : (outsAt0 m c t.val t.isLt).2 = normG m c t := by
  rw [outsAt0_A m c t h]
  frame_out
  exact canonAt m c t h

/-- The normed rows are those of the row block, whatever the column block. -/
theorem normG_pred (c : Dev nD) (t : Fin cfg0.N) (h : ¬ t.val % 11 = 0) :
    normG m c ⟨t.val - 1, Nat.lt_of_le_of_lt (Nat.sub_le _ _) t.isLt⟩ = normG m c t := by
  funext y
  unfold normG
  refine congrArg _ ?_
  have e : win0_0.index ⟨t.val - 1, Nat.lt_of_le_of_lt (Nat.sub_le _ _) t.isLt⟩ = win0_0.index t := by
    rw [(idx t).1, (idx ⟨t.val - 1, _⟩).1]
    have e : (t.val - 1) / 11 = t.val / 11 := by omega
    simp only [e]
  blk_ext
  · rw [e]
  · rw [e]

/-- The scratch holds the normed rows at every point. -/
theorem st (c : Dev nD) : ∀ (n : ℕ) (hn : n < cfg0.N), (outsAt0 m c n hn).2 = normG m c ⟨n, hn⟩ := by
  intro n
  induction n with
  | zero => intro hn; exact st_A m c ⟨0, hn⟩ rfl
  | succ n ih =>
    intro hn
    by_cases h : (n + 1) % 11 = 0
    · exact st_A m c ⟨n + 1, hn⟩ h
    · rw [← normG_pred m c ⟨n + 1, hn⟩ h, outsAt0_B m c ⟨n + 1, hn⟩ h]
      exact ih _

theorem out_A (c : Dev nD) (t : Fin cfg0.N) (h : t.val % 11 = 0) : (outsAt0 m c t.val t.isLt).1 = k0_pay2 (normG m c t) (iblk m c 2 t) (iblk m c 3 t) := by
  rw [outsAt0_A m c t h]
  frame_out
  rw [View.readCov_eq_canon', canonAt m c t h]
  refine congrArg (fun X => k0_pay2 X (iblk m c 2 t) (iblk m c 3 t)) (funext fun j => congrArg (normG m c t) (funext fun a => Fin.ext ?_))
  fin_cases a <;> simp [LoadRect.idx, Rect.unit]

theorem out_B (c : Dev nD) (t : Fin cfg0.N) (h : ¬ t.val % 11 = 0) : (outsAt0 m c t.val t.isLt).1 = k0_pay2 (normG m c t) (iblk m c 2 t) (iblk m c 3 t) := by
  rw [outsAt0_B m c t h]
  frame_out
  rw [read_unread_whole, st m c, normG_pred m c t h]

theorem point (c : Dev nD) (t : Fin cfg0.N) (y : S1024x512.Idx) : k0_pay2 (F := Ideal) (normG m c t) (iblk m c 2 t) (iblk m c 3 t) y
   = val_main_v19 (F := Ideal) (m ((c : Thread nD τ).loc main_arg0)) (m ((c : Thread nD τ).loc main_arg1))
        (m ((c : Thread nD τ).loc main_arg2)) (m ((c : Thread nD τ).loc main_arg3)) (((cfg0.win 4).blk t).view.emb y) := by
  pointwise [k0_pay2, val_main_v19, val_main_v18, val_main_v17, val_main_v16, val_main_v15, val_main_v14, val_main_v13,
    val_main_call0_v5, val_main_call0_v4, val_main_call0_v3, val_main_call0_v2, val_main_call0_v1, val_main_call0_v0, val_main_call0_cst, val_main_call0_cst_0,
    normG]
  simp only [Cert.Silu.tanh_gate, Ideal.logistic]
  blk_point [iblk, V, idx t]

/-- The array the kernel writes is the reference's. -/
theorem final (c : Dev nD) : (dats m 0 c).arrAt 4 cfg0.N
    = val_main_v19 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]
  by_cases h : t.val % 11 = 0
  · rw [out_A m c t h]; exact point m c t y
  · rw [out_B m c t h]; exact point m c t y

end Cert.UpIdeal.RefValue

/-- The kernel and the reference end with the same result. -/
theorem Cert.UpIdeal.algebraic : Cert.algebraic_UpIdeal_UpRefIdeal := by
  pair_intro
  · run_from Cert.UpIdeal.Gen.run_main m g
  · run_from Cert.UpRefIdeal.Value.run m' g'
    exact (Cert.UpIdeal.RefValue.final m c).symm

end
-- ==== Proof.Down.lean ====
/- The down projection of the feed-forward layer with its residual: every block the kernel writes is the reference's `x + hidden @ w` at the rows
   and columns of that block. -/
module

public import proofs.«01_k».proof.Proof.Gen.DownIdeal.Value
public import proofs.«01_k».proof.Proof.Gen.DownRefIdeal.Run
public import proofs.«01_k».proof.Proof.Gen.DownRefIdeal.Read
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

namespace Cert.DownIdeal.RefValue

open Cert.DownIdeal Cert.DownIdeal.Gen Idealize.ShloMosaic Idealize.ShloMosaic.TcCoe Idealize.SL.Sem
open Idealize.ShloMosaic.Pipeline (Dat)
open Cert.DownRefIdeal.Read (val_main_v0 val_main_v1 val_main_v2 val_main_v3)

variable (m : (ℓ : Loc nD τ sig) → Buf (Elt Ideal) ℓ)

/-- Which block each window shows at a grid point: rows by the first coordinate, columns by the second. -/
theorem idx : ∀ t : Fin cfg0.N, win0_0.index t = ![t.val / 4, 0] ∧ win0_1.index t = ![0, t.val % 4]
    ∧ win0_2.index t = ![t.val / 4, t.val % 4] ∧ win0_3.index t = ![t.val / 4, t.val % 4] :=
  (by decide +kernel : ∀ t : Fin grid0.N, _)

/-- What the body stores at an index of its block is the reference's sum there. -/
theorem point (c : Dev nD) (t : Fin cfg0.N) (y : S1024x512.Idx) :
    k0_pay1 (F := Ideal) (iblk m c 2 t) (iblk m c 0 t) (iblk m c 1 t) y
      = val_main_v3 (F := Ideal) (m ((c : Thread nD τ).loc main_arg0)) (m ((c : Thread nD τ).loc main_arg1))
          (m ((c : Thread nD τ).loc main_arg2)) (((cfg0.win 3).blk t).view.emb y) := by
  pointwise [k0_pay1, val_main_v3, val_main_v2, val_main_v1, val_main_v0]
  blk_point [iblk, V, idx t]

/-- The result array after the run. -/
theorem final (c : Dev nD) : (dats m 0 c).arrAt 3 (cfgs 0).N
    = val_main_v3 (F := Ideal) (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]; frame_out
  exact point m c t y

end Cert.DownIdeal.RefValue

/-- The kernel and the reference end with the same result. -/
theorem Cert.DownIdeal.algebraic : Cert.algebraic_DownIdeal_DownRefIdeal := by
  pair_intro
  · run_from Cert.DownIdeal.Gen.run_main m g
  · run_from Cert.DownRefIdeal.Value.run m' g'
    exact (Cert.DownIdeal.RefValue.final m c).symm

end
-- ==== Proof.lean ====
module

public import proofs.«01_k».proof.Defs
public import proofs.«01_k».proof.Proof.Gen.Ret
public import proofs.«01_k».proof.Proof.Gen.Ret.Skeleton
public import proofs.«01_k».proof.Proof.Gen.Ret.Launch
public import proofs.«01_k».proof.Proof.Gen.Ret.Points
public import proofs.«01_k».proof.Proof.Gen.Ret.Frame
public import proofs.«01_k».proof.Proof.Gen.RetIdeal
public import proofs.«01_k».proof.Proof.Gen.RetIdeal.Skeleton
public import proofs.«01_k».proof.Proof.Gen.RetIdeal.Launch
public import proofs.«01_k».proof.Proof.Gen.RetIdeal.Points
public import proofs.«01_k».proof.Proof.Gen.RetIdeal.Frame
public import proofs.«01_k».proof.Proof.Gen.RetRefIdeal
public import proofs.«01_k».proof.Proof.Gen.Main
public import proofs.«01_k».proof.Proof.Gen.Main.Skeleton
public import proofs.«01_k».proof.Proof.Gen.Main.Launch
public import proofs.«01_k».proof.Proof.Gen.Main.Points
public import proofs.«01_k».proof.Proof.Gen.Main.Frame
public import proofs.«01_k».proof.Proof.Gen.MainIdeal
public import proofs.«01_k».proof.Proof.Gen.MainIdeal.Skeleton
public import proofs.«01_k».proof.Proof.Gen.MainIdeal.Launch
public import proofs.«01_k».proof.Proof.Gen.MainIdeal.Points
public import proofs.«01_k».proof.Proof.Gen.MainIdeal.Frame
public import proofs.«01_k».proof.Proof.Gen.MainRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.Up
public import proofs.«01_k».proof.Proof.Gen.Up.Skeleton
public import proofs.«01_k».proof.Proof.Gen.Up.Loops
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Loops
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.RetIdeal.Value
public import proofs.«01_k».proof.Proof.Gen.RetRefIdeal.Run
public import proofs.«01_k».proof.Proof.Gen.RetRefIdeal.Read
public import proofs.«01_k».proof.Proof.Gen.MainIdeal.Value
public import proofs.«01_k».proof.Proof.Gen.MainRefIdeal.Run
public import proofs.«01_k».proof.Proof.Gen.MainRefIdeal.Read
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.OutIdeal.Value
public import proofs.«01_k».proof.Proof.Gen.OutRefIdeal.Run
public import proofs.«01_k».proof.Proof.Gen.OutRefIdeal.Read
public import proofs.«01_k».proof.Proof.Gen.UpIdeal.Value
public import proofs.«01_k».proof.Proof.Gen.UpRefIdeal.Run
public import proofs.«01_k».proof.Proof.Gen.UpRefIdeal.Read
public import proofs.«01_k».proof.Proof.Gen.DownIdeal.Value
public import proofs.«01_k».proof.Proof.Gen.DownRefIdeal.Run
public import proofs.«01_k».proof.Proof.Gen.DownRefIdeal.Read
public import proofs.«01_k».proof.Proof.Ret
public import proofs.«01_k».proof.Proof.Main
public import proofs.«01_k».proof.Proof.Merge
public import proofs.«01_k».proof.Proof.Out
public import proofs.«01_k».proof.Proof.Up
public import proofs.«01_k».proof.Proof.Down
public import Idealize.ShloMosaic.Adequacy
public import Idealize.ShloMosaic.Init

@[expose] public section

noncomputable section

namespace Cert.Proof

open Idealize.ShloMosaic Idealize.SL.Sem Cert.Ret

/-- The reference of `Ret` leaves its arguments as they were, and no semaphore is left raised: it has none. -/
theorem refRet : Cert.quiescent_RetRefIdeal := fun m ρ _ =>
  (θ_run Cert.RetRefIdeal.defs _ _).mono (fun r h => ⟨fun c => (h c).2, sem_eq_zero_of_no_sems (by decide) r.2⟩)
    (Cert.RetRefIdeal.Value.run (F := Ideal) m ρ)

/-- The reference of `Main` leaves its arguments as they were, and no semaphore is left raised: it has none. -/
theorem refMain : Cert.quiescent_MainRefIdeal := fun m ρ _ =>
  (θ_run Cert.MainRefIdeal.defs _ _).mono (fun r h => ⟨fun c => (h c).2, sem_eq_zero_of_no_sems (by decide) r.2⟩)
    (Cert.MainRefIdeal.Value.run (F := Ideal) m ρ)

/-- The reference of `Merge` leaves its arguments as they were, and no semaphore is left raised: it has none. -/
theorem refMerge : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- The reference of `Out` leaves its arguments as they were, and no semaphore is left raised: it has none. -/
theorem refOut : Cert.quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

/-- The reference of `Up` leaves its arguments as they were, and no semaphore is left raised: it has none. -/
theorem refUp : Cert.quiescent_UpRefIdeal := fun m ρ _ =>
  (θ_run Cert.UpRefIdeal.defs _ _).mono (fun r h => ⟨fun c => (h c).2, sem_eq_zero_of_no_sems (by decide) r.2⟩)
    (Cert.UpRefIdeal.Value.run (F := Ideal) m ρ)

/-- The reference of `Down` leaves its arguments as they were, and no semaphore is left raised: it has none. -/
theorem refDown : Cert.quiescent_DownRefIdeal := fun m ρ _ =>
  (θ_run Cert.DownRefIdeal.defs _ _).mono (fun r h => ⟨fun c => (h c).2, sem_eq_zero_of_no_sems (by decide) r.2⟩)
    (Cert.DownRefIdeal.Value.run (F := Ideal) m ρ)

/-- The claims: each program runs and leaves its arguments, each idealized kernel is its kernel, and each ends with its reference's result. -/
theorem claim : Cert.Claim := ⟨Cert.Ret.Gen.facts, Cert.RetIdeal.Gen.facts, Cert.RetRefIdeal.Gen.facts, Cert.Main.Gen.facts, Cert.MainIdeal.Gen.facts, Cert.MainRefIdeal.Gen.facts, Cert.Merge.Gen.facts, Cert.MergeIdeal.Gen.facts, Cert.MergeRefIdeal.Gen.facts, Cert.Out.Gen.facts, Cert.OutIdeal.Gen.facts, Cert.OutRefIdeal.Gen.facts, Cert.Up.Gen.facts, Cert.UpIdeal.Gen.facts, Cert.UpRefIdeal.Gen.facts, Cert.Down.Gen.facts, Cert.DownIdeal.Gen.facts, Cert.DownRefIdeal.Gen.facts, fun m ρ _ => Cert.Ret.Gen.frame m ρ, fun m ρ _ => Cert.RetIdeal.Gen.frame m ρ, refRet,
  fun m ρ _ => Cert.Main.Gen.frame m ρ, fun m ρ _ => Cert.MainIdeal.Gen.frame m ρ, refMain,
  fun m ρ _ => Cert.Merge.Gen.frame m ρ, fun m ρ _ => Cert.MergeIdeal.Gen.frame m ρ, refMerge,
  fun m ρ _ => Cert.Out.Gen.frame m ρ, fun m ρ _ => Cert.OutIdeal.Gen.frame m ρ, refOut,
  fun m ρ _ => Cert.Up.Gen.frame m ρ, fun m ρ _ => Cert.UpIdeal.Gen.frame m ρ, refUp,
  fun m ρ _ => Cert.Down.Gen.frame m ρ, fun m ρ _ => Cert.DownIdeal.Gen.frame m ρ, refDown,
  trivial, Cert.RetIdeal.algebraic,
  trivial, Cert.MainIdeal.algebraic,
  trivial, Cert.MergeIdeal.algebraic,
  trivial, Cert.OutIdeal.algebraic,
  trivial, Cert.UpIdeal.algebraic,
  trivial, Cert.DownIdeal.algebraic⟩

end Cert.Proof

end
